-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S2048x2048 : Shape := ⟨2, ![2048, 2048]⟩
abbrev S256x2048 : Shape := ⟨2, ![256, 2048]⟩
abbrev S7x256x256 : Shape := ⟨3, ![7, 256, 256]⟩
abbrev S8x256x2048 : Shape := ⟨3, ![8, 256, 2048]⟩
abbrev S_ : Shape := ⟨0, ![]⟩
abbrev S7 : Shape := ⟨1, ![7]⟩
abbrev S8 : Shape := ⟨1, ![8]⟩
abbrev S1 : Shape := ⟨1, ![1]⟩
abbrev S1x256x2048 : Shape := ⟨3, ![1, 256, 2048]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S256x2048, .f32⟩
  | .local _ .vmem, ⟨0, _⟩ => ⟨S2048x256, .f32⟩
  | .local _ .vmem, ⟨1, _⟩ => ⟨S2048x256, .bf16⟩
  | .local _ .vmem, ⟨2, _⟩ => ⟨S7x256x256, .bf16⟩
  | .local _ .vmem, ⟨3, _⟩ => ⟨S8x256x2048, .f32⟩
  | .local _ .vmem, ⟨4, _⟩ => ⟨S256x2048, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let c0_i32_1 : BitVec 32 := 0#32
  let v4 : BitVec 1 := Scalar.cmpi .eq c8_i32_0 c0_i32_1
  let c1_i32_2 : BitVec 32 := 1#32
  let v5 : BitVec 32 := Scalar.select v4 c1_i32_2 c8_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  let c0_i32_10 : BitVec 32 := 0#32
  ![v14.toNat, 0]
def k0_dev1 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v140 : BitVec 32 := Scalar.addi v2 c1_i32_96
  let c8_i32_97 : BitVec 32 := 8#32
  let c0_i32_98 : BitVec 32 := 0#32
  let v141 : BitVec 1 := Scalar.cmpi .eq c8_i32_97 c0_i32_98
  let c1_i32_99 : BitVec 32 := 1#32
  let v142 : BitVec 32 := Scalar.select v141 c1_i32_99 c8_i32_97
  let v143 : BitVec 32 := Scalar.remsi v140 v142
  let c0_i32_101 : BitVec 32 := 0#32
  let v145 : BitVec 1 := Scalar.cmpi .slt v143 c0_i32_101
  let c0_i32_102 : BitVec 32 := 0#32
  let v146 : BitVec 1 := Scalar.cmpi .slt v142 c0_i32_102
  let v147 : BitVec 1 := Scalar.xori v145 v146
  let c0_i32_100 : BitVec 32 := 0#32
  let v144 : BitVec 1 := Scalar.cmpi .ne v143 c0_i32_100
  let v148 : BitVec 1 := Scalar.andi v147 v144
  let v149 : BitVec 32 := Scalar.addi v143 v142
  let v150 : BitVec 32 := Scalar.select v148 v149 v143
  let c1_i32_104 : BitVec 32 := 1#32
  let v151 : BitVec 32 := Scalar.muli v150 c1_i32_104
  let v152 : BitVec 32 := Scalar.addi c0_i32_105 v151
  v152.toNat
def k0_dev2 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_106 : BitVec 32 := 2#32
  let v153 : BitVec 32 := Scalar.addi v2 c2_i32_106
  let c8_i32_107 : BitVec 32 := 8#32
  let c0_i32_108 : BitVec 32 := 0#32
  let v154 : BitVec 1 := Scalar.cmpi .eq c8_i32_107 c0_i32_108
  let c1_i32_109 : BitVec 32 := 1#32
  let v155 : BitVec 32 := Scalar.select v154 c1_i32_109 c8_i32_107
  let v156 : BitVec 32 := Scalar.remsi v153 v155
  let c0_i32_111 : BitVec 32 := 0#32
  let v158 : BitVec 1 := Scalar.cmpi .slt v156 c0_i32_111
  let c0_i32_112 : BitVec 32 := 0#32
  let v159 : BitVec 1 := Scalar.cmpi .slt v155 c0_i32_112
  let v160 : BitVec 1 := Scalar.xori v158 v159
  let c0_i32_110 : BitVec 32 := 0#32
  let v157 : BitVec 1 := Scalar.cmpi .ne v156 c0_i32_110
  let v161 : BitVec 1 := Scalar.andi v160 v157
  let v162 : BitVec 32 := Scalar.addi v156 v155
  let v163 : BitVec 32 := Scalar.select v161 v162 v156
  let c1_i32_114 : BitVec 32 := 1#32
  let v164 : BitVec 32 := Scalar.muli v163 c1_i32_114
  let v165 : BitVec 32 := Scalar.addi c0_i32_115 v164
  v165.toNat
def k0_dev3 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_116 : BitVec 32 := 3#32
  let v166 : BitVec 32 := Scalar.addi v2 c3_i32_116
  let c8_i32_117 : BitVec 32 := 8#32
  let c0_i32_118 : BitVec 32 := 0#32
  let v167 : BitVec 1 := Scalar.cmpi .eq c8_i32_117 c0_i32_118
  let c1_i32_119 : BitVec 32 := 1#32
  let v168 : BitVec 32 := Scalar.select v167 c1_i32_119 c8_i32_117
  let v169 : BitVec 32 := Scalar.remsi v166 v168
  let c0_i32_121 : BitVec 32 := 0#32
  let v171 : BitVec 1 := Scalar.cmpi .slt v169 c0_i32_121
  let c0_i32_122 : BitVec 32 := 0#32
  let v172 : BitVec 1 := Scalar.cmpi .slt v168 c0_i32_122
  let v173 : BitVec 1 := Scalar.xori v171 v172
  let c0_i32_120 : BitVec 32 := 0#32
  let v170 : BitVec 1 := Scalar.cmpi .ne v169 c0_i32_120
  let v174 : BitVec 1 := Scalar.andi v173 v170
  let v175 : BitVec 32 := Scalar.addi v169 v168
  let v176 : BitVec 32 := Scalar.select v174 v175 v169
  let c1_i32_124 : BitVec 32 := 1#32
  let v177 : BitVec 32 := Scalar.muli v176 c1_i32_124
  let v178 : BitVec 32 := Scalar.addi c0_i32_125 v177
  v178.toNat
def k0_dev4 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_126 : BitVec 32 := 4#32
  let v179 : BitVec 32 := Scalar.addi v2 c4_i32_126
  let c8_i32_127 : BitVec 32 := 8#32
  let c0_i32_128 : BitVec 32 := 0#32
  let v180 : BitVec 1 := Scalar.cmpi .eq c8_i32_127 c0_i32_128
  let c1_i32_129 : BitVec 32 := 1#32
  let v181 : BitVec 32 := Scalar.select v180 c1_i32_129 c8_i32_127
  let v182 : BitVec 32 := Scalar.remsi v179 v181
  let c0_i32_131 : BitVec 32 := 0#32
  let v184 : BitVec 1 := Scalar.cmpi .slt v182 c0_i32_131
  let c0_i32_132 : BitVec 32 := 0#32
  let v185 : BitVec 1 := Scalar.cmpi .slt v181 c0_i32_132
  let v186 : BitVec 1 := Scalar.xori v184 v185
  let c0_i32_130 : BitVec 32 := 0#32
  let v183 : BitVec 1 := Scalar.cmpi .ne v182 c0_i32_130
  let v187 : BitVec 1 := Scalar.andi v186 v183
  let v188 : BitVec 32 := Scalar.addi v182 v181
  let v189 : BitVec 32 := Scalar.select v187 v188 v182
  let c1_i32_134 : BitVec 32 := 1#32
  let v190 : BitVec 32 := Scalar.muli v189 c1_i32_134
  let v191 : BitVec 32 := Scalar.addi c0_i32_135 v190
  v191.toNat
def k0_dev5 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_136 : BitVec 32 := 5#32
  let v192 : BitVec 32 := Scalar.addi v2 c5_i32_136
  let c8_i32_137 : BitVec 32 := 8#32
  let c0_i32_138 : BitVec 32 := 0#32
  let v193 : BitVec 1 := Scalar.cmpi .eq c8_i32_137 c0_i32_138
  let c1_i32_139 : BitVec 32 := 1#32
  let v194 : BitVec 32 := Scalar.select v193 c1_i32_139 c8_i32_137
  let v195 : BitVec 32 := Scalar.remsi v192 v194
  let c0_i32_141 : BitVec 32 := 0#32
  let v197 : BitVec 1 := Scalar.cmpi .slt v195 c0_i32_141
  let c0_i32_142 : BitVec 32 := 0#32
  let v198 : BitVec 1 := Scalar.cmpi .slt v194 c0_i32_142
  let v199 : BitVec 1 := Scalar.xori v197 v198
  let c0_i32_140 : BitVec 32 := 0#32
  let v196 : BitVec 1 := Scalar.cmpi .ne v195 c0_i32_140
  let v200 : BitVec 1 := Scalar.andi v199 v196
  let v201 : BitVec 32 := Scalar.addi v195 v194
  let v202 : BitVec 32 := Scalar.select v200 v201 v195
  let c1_i32_144 : BitVec 32 := 1#32
  let v203 : BitVec 32 := Scalar.muli v202 c1_i32_144
  let v204 : BitVec 32 := Scalar.addi c0_i32_145 v203
  v204.toNat
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_146 : BitVec 32 := 6#32
  let v205 : BitVec 32 := Scalar.addi v2 c6_i32_146
  let c8_i32_147 : BitVec 32 := 8#32
  let c0_i32_148 : BitVec 32 := 0#32
  let v206 : BitVec 1 := Scalar.cmpi .eq c8_i32_147 c0_i32_148
  let c1_i32_149 : BitVec 32 := 1#32
  let v207 : BitVec 32 := Scalar.select v206 c1_i32_149 c8_i32_147
  let v208 : BitVec 32 := Scalar.remsi v205 v207
  let c0_i32_151 : BitVec 32 := 0#32
  let v210 : BitVec 1 := Scalar.cmpi .slt v208 c0_i32_151
  let c0_i32_152 : BitVec 32 := 0#32
  let v211 : BitVec 1 := Scalar.cmpi .slt v207 c0_i32_152
  let v212 : BitVec 1 := Scalar.xori v210 v211
  let c0_i32_150 : BitVec 32 := 0#32
  let v209 : BitVec 1 := Scalar.cmpi .ne v208 c0_i32_150
  let v213 : BitVec 1 := Scalar.andi v212 v209
  let v214 : BitVec 32 := Scalar.addi v208 v207
  let v215 : BitVec 32 := Scalar.select v213 v214 v208
  let c1_i32_154 : BitVec 32 := 1#32
  let v216 : BitVec 32 := Scalar.muli v215 c1_i32_154
  let v217 : BitVec 32 := Scalar.addi c0_i32_155 v216
  v217.toNat
def k0_dev7 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_156 : BitVec 32 := 7#32
  let v218 : BitVec 32 := Scalar.addi v2 c7_i32_156
  let c8_i32_157 : BitVec 32 := 8#32
  let c0_i32_158 : BitVec 32 := 0#32
  let v219 : BitVec 1 := Scalar.cmpi .eq c8_i32_157 c0_i32_158
  let c1_i32_159 : BitVec 32 := 1#32
  let v220 : BitVec 32 := Scalar.select v219 c1_i32_159 c8_i32_157
  let v221 : BitVec 32 := Scalar.remsi v218 v220
  let c0_i32_161 : BitVec 32 := 0#32
  let v223 : BitVec 1 := Scalar.cmpi .slt v221 c0_i32_161
  let c0_i32_162 : BitVec 32 := 0#32
  let v224 : BitVec 1 := Scalar.cmpi .slt v220 c0_i32_162
  let v225 : BitVec 1 := Scalar.xori v223 v224
  let c0_i32_160 : BitVec 32 := 0#32
  let v222 : BitVec 1 := Scalar.cmpi .ne v221 c0_i32_160
  let v226 : BitVec 1 := Scalar.andi v225 v222
  let v227 : BitVec 32 := Scalar.addi v221 v220
  let v228 : BitVec 32 := Scalar.select v226 v227 v221
  let c1_i32_164 : BitVec 32 := 1#32
  let v229 : BitVec 32 := Scalar.muli v228 c1_i32_164
  let v230 : BitVec 32 := Scalar.addi c0_i32_165 v229
  v230.toNat
def k0_off2 (d0 : Dev nD) (c1_i32_170 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.addi v2 c1_i32_170
  let c8_i32_171 : BitVec 32 := 8#32
  let c0_i32_172 : BitVec 32 := 0#32
  let v237 : BitVec 1 := Scalar.cmpi .eq c8_i32_171 c0_i32_172
  let c1_i32_173 : BitVec 32 := 1#32
  let v238 : BitVec 32 := Scalar.select v237 c1_i32_173 c8_i32_171
  let v239 : BitVec 32 := Scalar.remsi v236 v238
  let c0_i32_175 : BitVec 32 := 0#32
  let v241 : BitVec 1 := Scalar.cmpi .slt v239 c0_i32_175
  let c0_i32_176 : BitVec 32 := 0#32
  let v242 : BitVec 1 := Scalar.cmpi .slt v238 c0_i32_176
  let v243 : BitVec 1 := Scalar.xori v241 v242
  let c0_i32_174 : BitVec 32 := 0#32
  let v240 : BitVec 1 := Scalar.cmpi .ne v239 c0_i32_174
  let v244 : BitVec 1 := Scalar.andi v243 v240
  let v245 : BitVec 32 := Scalar.addi v239 v238
  let v246 : BitVec 32 := Scalar.select v244 v245 v239
  let c256_i32_177 : BitVec 32 := 256#32
  let v247 : BitVec 32 := Scalar.muli v246 c256_i32_177
  let c0_i32_185 : BitVec 32 := 0#32
  ![v247.toNat, 0]
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v236 : BitVec 32 := Scalar.addi v2 c1_i32_170
  let c8_i32_171 : BitVec 32 := 8#32
  let c0_i32_172 : BitVec 32 := 0#32
  let v237 : BitVec 1 := Scalar.cmpi .eq c8_i32_171 c0_i32_172
  let c1_i32_173 : BitVec 32 := 1#32
  let v238 : BitVec 32 := Scalar.select v237 c1_i32_173 c8_i32_171
  let v239 : BitVec 32 := Scalar.remsi v236 v238
  let c0_i32_175 : BitVec 32 := 0#32
  let v241 : BitVec 1 := Scalar.cmpi .slt v239 c0_i32_175
  let c0_i32_176 : BitVec 32 := 0#32
  let v242 : BitVec 1 := Scalar.cmpi .slt v238 c0_i32_176
  let v243 : BitVec 1 := Scalar.xori v241 v242
  let c0_i32_174 : BitVec 32 := 0#32
  let v240 : BitVec 1 := Scalar.cmpi .ne v239 c0_i32_174
  let v244 : BitVec 1 := Scalar.andi v243 v240
  let v245 : BitVec 32 := Scalar.addi v239 v238
  let v246 : BitVec 32 := Scalar.select v244 v245 v239
  let c1_i32_181 : BitVec 32 := 1#32
  let v248 : BitVec 32 := Scalar.muli v246 c1_i32_181
  let v249 : BitVec 32 := Scalar.addi c0_i32_182 v248
  v249.toNat
def k0_dev9 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_186 : BitVec 32 := 2#32
  let v257 : BitVec 32 := Scalar.addi v2 c2_i32_186
  let c8_i32_187 : BitVec 32 := 8#32
  let c0_i32_188 : BitVec 32 := 0#32
  let v258 : BitVec 1 := Scalar.cmpi .eq c8_i32_187 c0_i32_188
  let c1_i32_189 : BitVec 32 := 1#32
  let v259 : BitVec 32 := Scalar.select v258 c1_i32_189 c8_i32_187
  let v260 : BitVec 32 := Scalar.remsi v257 v259
  let c0_i32_191 : BitVec 32 := 0#32
  let v262 : BitVec 1 := Scalar.cmpi .slt v260 c0_i32_191
  let c0_i32_192 : BitVec 32 := 0#32
  let v263 : BitVec 1 := Scalar.cmpi .slt v259 c0_i32_192
  let v264 : BitVec 1 := Scalar.xori v262 v263
  let c0_i32_190 : BitVec 32 := 0#32
  let v261 : BitVec 1 := Scalar.cmpi .ne v260 c0_i32_190
  let v265 : BitVec 1 := Scalar.andi v264 v261
  let v266 : BitVec 32 := Scalar.addi v260 v259
  let v267 : BitVec 32 := Scalar.select v265 v266 v260
  let c1_i32_197 : BitVec 32 := 1#32
  let v269 : BitVec 32 := Scalar.muli v267 c1_i32_197
  let v270 : BitVec 32 := Scalar.addi c0_i32_198 v269
  v270.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_202 : BitVec 32 := 3#32
  let v278 : BitVec 32 := Scalar.addi v2 c3_i32_202
  let c8_i32_203 : BitVec 32 := 8#32
  let c0_i32_204 : BitVec 32 := 0#32
  let v279 : BitVec 1 := Scalar.cmpi .eq c8_i32_203 c0_i32_204
  let c1_i32_205 : BitVec 32 := 1#32
  let v280 : BitVec 32 := Scalar.select v279 c1_i32_205 c8_i32_203
  let v281 : BitVec 32 := Scalar.remsi v278 v280
  let c0_i32_207 : BitVec 32 := 0#32
  let v283 : BitVec 1 := Scalar.cmpi .slt v281 c0_i32_207
  let c0_i32_208 : BitVec 32 := 0#32
  let v284 : BitVec 1 := Scalar.cmpi .slt v280 c0_i32_208
  let v285 : BitVec 1 := Scalar.xori v283 v284
  let c0_i32_206 : BitVec 32 := 0#32
  let v282 : BitVec 1 := Scalar.cmpi .ne v281 c0_i32_206
  let v286 : BitVec 1 := Scalar.andi v285 v282
  let v287 : BitVec 32 := Scalar.addi v281 v280
  let v288 : BitVec 32 := Scalar.select v286 v287 v281
  let c1_i32_213 : BitVec 32 := 1#32
  let v290 : BitVec 32 := Scalar.muli v288 c1_i32_213
  let v291 : BitVec 32 := Scalar.addi c0_i32_214 v290
  v291.toNat
def k0_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_218 : BitVec 32 := 4#32
  let v299 : BitVec 32 := Scalar.addi v2 c4_i32_218
  let c8_i32_219 : BitVec 32 := 8#32
  let c0_i32_220 : BitVec 32 := 0#32
  let v300 : BitVec 1 := Scalar.cmpi .eq c8_i32_219 c0_i32_220
  let c1_i32_221 : BitVec 32 := 1#32
  let v301 : BitVec 32 := Scalar.select v300 c1_i32_221 c8_i32_219
  let v302 : BitVec 32 := Scalar.remsi v299 v301
  let c0_i32_223 : BitVec 32 := 0#32
  let v304 : BitVec 1 := Scalar.cmpi .slt v302 c0_i32_223
  let c0_i32_224 : BitVec 32 := 0#32
  let v305 : BitVec 1 := Scalar.cmpi .slt v301 c0_i32_224
  let v306 : BitVec 1 := Scalar.xori v304 v305
  let c0_i32_222 : BitVec 32 := 0#32
  let v303 : BitVec 1 := Scalar.cmpi .ne v302 c0_i32_222
  let v307 : BitVec 1 := Scalar.andi v306 v303
  let v308 : BitVec 32 := Scalar.addi v302 v301
  let v309 : BitVec 32 := Scalar.select v307 v308 v302
  let c1_i32_229 : BitVec 32 := 1#32
  let v311 : BitVec 32 := Scalar.muli v309 c1_i32_229
  let v312 : BitVec 32 := Scalar.addi c0_i32_230 v311
  v312.toNat
def k0_dev12 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_234 : BitVec 32 := 5#32
  let v320 : BitVec 32 := Scalar.addi v2 c5_i32_234
  let c8_i32_235 : BitVec 32 := 8#32
  let c0_i32_236 : BitVec 32 := 0#32
  let v321 : BitVec 1 := Scalar.cmpi .eq c8_i32_235 c0_i32_236
  let c1_i32_237 : BitVec 32 := 1#32
  let v322 : BitVec 32 := Scalar.select v321 c1_i32_237 c8_i32_235
  let v323 : BitVec 32 := Scalar.remsi v320 v322
  let c0_i32_239 : BitVec 32 := 0#32
  let v325 : BitVec 1 := Scalar.cmpi .slt v323 c0_i32_239
  let c0_i32_240 : BitVec 32 := 0#32
  let v326 : BitVec 1 := Scalar.cmpi .slt v322 c0_i32_240
  let v327 : BitVec 1 := Scalar.xori v325 v326
  let c0_i32_238 : BitVec 32 := 0#32
  let v324 : BitVec 1 := Scalar.cmpi .ne v323 c0_i32_238
  let v328 : BitVec 1 := Scalar.andi v327 v324
  let v329 : BitVec 32 := Scalar.addi v323 v322
  let v330 : BitVec 32 := Scalar.select v328 v329 v323
  let c1_i32_245 : BitVec 32 := 1#32
  let v332 : BitVec 32 := Scalar.muli v330 c1_i32_245
  let v333 : BitVec 32 := Scalar.addi c0_i32_246 v332
  v333.toNat
def k0_dev13 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_250 : BitVec 32 := 6#32
  let v341 : BitVec 32 := Scalar.addi v2 c6_i32_250
  let c8_i32_251 : BitVec 32 := 8#32
  let c0_i32_252 : BitVec 32 := 0#32
  let v342 : BitVec 1 := Scalar.cmpi .eq c8_i32_251 c0_i32_252
  let c1_i32_253 : BitVec 32 := 1#32
  let v343 : BitVec 32 := Scalar.select v342 c1_i32_253 c8_i32_251
  let v344 : BitVec 32 := Scalar.remsi v341 v343
  let c0_i32_255 : BitVec 32 := 0#32
  let v346 : BitVec 1 := Scalar.cmpi .slt v344 c0_i32_255
  let c0_i32_256 : BitVec 32 := 0#32
  let v347 : BitVec 1 := Scalar.cmpi .slt v343 c0_i32_256
  let v348 : BitVec 1 := Scalar.xori v346 v347
  let c0_i32_254 : BitVec 32 := 0#32
  let v345 : BitVec 1 := Scalar.cmpi .ne v344 c0_i32_254
  let v349 : BitVec 1 := Scalar.andi v348 v345
  let v350 : BitVec 32 := Scalar.addi v344 v343
  let v351 : BitVec 32 := Scalar.select v349 v350 v344
  let c1_i32_261 : BitVec 32 := 1#32
  let v353 : BitVec 32 := Scalar.muli v351 c1_i32_261
  let v354 : BitVec 32 := Scalar.addi c0_i32_262 v353
  v354.toNat
def k0_dev14 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_266 : BitVec 32 := 7#32
  let v362 : BitVec 32 := Scalar.addi v2 c7_i32_266
  let c8_i32_267 : BitVec 32 := 8#32
  let c0_i32_268 : BitVec 32 := 0#32
  let v363 : BitVec 1 := Scalar.cmpi .eq c8_i32_267 c0_i32_268
  let c1_i32_269 : BitVec 32 := 1#32
  let v364 : BitVec 32 := Scalar.select v363 c1_i32_269 c8_i32_267
  let v365 : BitVec 32 := Scalar.remsi v362 v364
  let c0_i32_271 : BitVec 32 := 0#32
  let v367 : BitVec 1 := Scalar.cmpi .slt v365 c0_i32_271
  let c0_i32_272 : BitVec 32 := 0#32
  let v368 : BitVec 1 := Scalar.cmpi .slt v364 c0_i32_272
  let v369 : BitVec 1 := Scalar.xori v367 v368
  let c0_i32_270 : BitVec 32 := 0#32
  let v366 : BitVec 1 := Scalar.cmpi .ne v365 c0_i32_270
  let v370 : BitVec 1 := Scalar.andi v369 v366
  let v371 : BitVec 32 := Scalar.addi v365 v364
  let v372 : BitVec 32 := Scalar.select v370 v371 v365
  let c1_i32_277 : BitVec 32 := 1#32
  let v374 : BitVec 32 := Scalar.muli v372 c1_i32_277
  let v375 : BitVec 32 := Scalar.addi c0_i32_278 v374
  v375.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_287 : BitVec 32 := 256#32
  let v388 : BitVec 32 := Scalar.muli v2 c256_i32_287
  let v389 : Index := Scalar.indexCast v388
  let c0_288 : Index := 0#32
  ![v389.toNat, 0]
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
# The devices, the buffers' parts and the semaphores

The eight devices form the cyclic group of order eight. Device `c` at step `k` works on row block
`c - k` of the weight matrix; its `j`-th transfer goes to device `c + (j + 1)`. This module gives
the parts of each buffer that a transfer moves, the semaphore each transfer counts on, and shows
that the parts of one buffer are disjoint and cover it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Memref
public import Idealize.ShloMosaic.Lib.ValueIdx

@[expose] public section

noncomputable section

namespace Cert.MatGelu

open Cert.KernelIdeal Cert.KernelIdeal.Gen
open Idealize.ShloMosaic Idealize.ShloMosaic.TcCoe

/-! ## Devices -/

/-- The device `j + 1` places further round the mesh. -/
abbrev up (c : Dev nD) (j : Fin 7) : Dev nD := c + (j.succ : Fin 8)
/-- The device `j + 1` places back. -/
abbrev dn (c : Dev nD) (j : Fin 7) : Dev nD := c - (j.succ : Fin 8)

/-- Back after forward is where one was. -/
theorem dn_up (c : Dev nD) (j : Fin 7) : dn (up c j) j = c := by revert c j; decide
/-- Forward after back is where one was. -/
theorem up_dn (c : Dev nD) (j : Fin 7) : up (dn c j) j = c := by revert c j; decide
/-- Back by the reversed step is forward by the step. -/
theorem dn_rev (c : Dev nD) (j : Fin 7) : dn c j.rev = up c j := by revert c j; decide

/-- The device the body's signal number `j` names. -/
def sigDev (c : Dev nD) (j : Fin 7) : Dev nD :=
  match j with
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩
/-- The device the body's transfer number `j` names. -/
def sendDev (c : Dev nD) (j : Fin 7) : Dev nD :=
  match j with
  | 0 => ⟨k0_dev8 c, k0_dev8_lt c⟩ | 1 => ⟨k0_dev9 c, k0_dev9_lt c⟩ | 2 => ⟨k0_dev10 c, k0_dev10_lt c⟩
  | 3 => ⟨k0_dev11 c, k0_dev11_lt c⟩ | 4 => ⟨k0_dev12 c, k0_dev12_lt c⟩ | 5 => ⟨k0_dev13 c, k0_dev13_lt c⟩
  | 6 => ⟨k0_dev14 c, k0_dev14_lt c⟩

/-- Signal number `j` goes `j + 1` places further. -/
theorem sigDev_eq (c : Dev nD) (j : Fin 7) : sigDev c j = up c j := by revert c j; decide +kernel
/-- So does transfer number `j`. -/
theorem sendDev_eq (c : Dev nD) (j : Fin 7) : sendDev c j = up c j := by revert c j; decide +kernel

/-! ## Whole buffers -/

/-- A device's columns of the first operand. -/
abbrev xM : Memref sig .tc .hbm S2048x256 .f32 := Memref.whole main_arg0
/-- The second operand. -/
abbrev wM : Memref sig .tc .hbm S2048x2048 .f32 := Memref.whole main_arg1
/-- The result. -/
abbrev yM : Memref sig .tc .hbm S256x2048 .f32 := Memref.whole main_v1
/-- The scratch copy of the columns. -/
abbrev xvM : Memref sig .tc .vmem S2048x256 .f32 := Memref.whole cc0_scratch0
/-- The narrowed columns. -/
abbrev xbM : Memref sig .tc .vmem S2048x256 .bf16 := Memref.whole cc0_scratch1
/-- The receive buffer of seven slots. -/
abbrev commM : Memref sig .tc .vmem S7x256x256 .bf16 := Memref.whole cc0_scratch2
/-- The weight buffer of eight slots. -/
abbrev wbM : Memref sig .tc .vmem S8x256x2048 .f32 := Memref.whole cc0_scratch3
/-- The scratch copy of the result. -/
abbrev ovM : Memref sig .tc .vmem S256x2048 .f32 := Memref.whole cc0_scratch4

/-! ## Row blocks and slots -/

/-- A slot of the weight buffer lies in it. -/
theorem inb_wb (k : Fin 8) : ∀ a, (![k.val, 0, 0] : Fin 3 → Nat) a + S1x256x2048.size a ≤ S8x256x2048.size a := by
  revert k; decide
/-- A slot of the receive buffer lies in it. -/
theorem inb_comm (j : Fin 7) : ∀ a, (![j.val, 0, 0] : Fin 3 → Nat) a + S1x256x256.size a ≤ S7x256x256.size a := by
  revert j; decide
/-- One of eight semaphores lies in the array. -/
theorem inb_s8 (k : Fin 8) : ∀ a, (![k.val] : Fin 1 → Nat) a + S1.size a ≤ S8.size a := by revert k; decide
/-- One of seven does. -/
theorem inb_s7 (j : Fin 7) : ∀ a, (![j.val] : Fin 1 → Nat) a + S1.size a ≤ S7.size a := by revert j; decide
/-- A receive slot is whole words. -/
theorem words_comm (j : Fin 7) :
    (Rect.unit (s := S7x256x256) ![j.val, 0, 0] S1x256x256.size (inb_comm j)).WholeWords (EltTy.packing .bf16) := by
  fin_cases j
  · exact wordsbf16_S7x256x256_S1x256x256_0_0_0
  · exact wordsbf16_S7x256x256_S1x256x256_1_0_0
  · exact wordsbf16_S7x256x256_S1x256x256_2_0_0
  · exact wordsbf16_S7x256x256_S1x256x256_3_0_0
  · exact wordsbf16_S7x256x256_S1x256x256_4_0_0
  · exact wordsbf16_S7x256x256_S1x256x256_5_0_0
  · exact wordsbf16_S7x256x256_S1x256x256_6_0_0

/-- The rows of the weight matrix that device `c` reads at step `k`: row block `c - k`. -/
abbrev wRect (c : Dev nD) (k : Fin 8) : Rect S2048x2048 :=
  Rect.unit (s := S2048x2048) (k0_off1 c (BitVec.ofNat 32 k.val)) S256x2048.size (k0_off1_inb c k)
/-- The rows of the narrowed operand that device `c`'s transfer `j` sends: row block `c + (j + 1)`. -/
abbrev sRect (c : Dev nD) (j : Fin 7) : Rect S2048x256 :=
  Rect.unit (s := S2048x256) (k0_off2 c (BitVec.ofNat 32 (1 + j.val))) S256x256.size (k0_off2_inb c j)
/-- The rows of the narrowed operand device `c` uses itself: row block `c`. -/
abbrev ownRect (c : Dev nD) : Rect S2048x256 :=
  Rect.unit (s := S2048x256) (k0_off3 c) S256x256.size (k0_off3_inb c)
/-- The weight buffer's slot `k`. -/
abbrev wbRect (k : Fin 8) : Rect S8x256x2048 :=
  Rect.unit (s := S8x256x2048) ![k.val, 0, 0] S1x256x2048.size (inb_wb k)
/-- The receive buffer's slot `j`. -/
abbrev commRect (j : Fin 7) : Rect S7x256x256 :=
  Rect.unit (s := S7x256x256) ![j.val, 0, 0] S1x256x256.size (inb_comm j)

/-- The weight rows of step `k`. -/
abbrev wRow (c : Dev nD) (k : Fin 8) : Memref sig .tc .hbm S256x2048 .f32 := wM.slice (wRect c k) (fun _ => rfl)
/-- The narrowed rows that transfer `j` sends. -/
abbrev sRow (c : Dev nD) (j : Fin 7) : Memref sig .tc .vmem S256x256 .bf16 := xbM.slice (sRect c j) (fun _ => rfl)
/-- The narrowed rows that the device uses itself. -/
abbrev ownRow (c : Dev nD) : Memref sig .tc .vmem S256x256 .bf16 := xbM.slice (ownRect c) (fun _ => rfl)
/-- Slot `k` of the weight buffer, with its leading unit axis. -/
abbrev wbSlice (k : Fin 8) : Memref sig .tc .vmem S1x256x2048 .f32 := wbM.slice (wbRect k) (fun _ => rfl)
/-- Slot `k` of the weight buffer as a matrix. -/
abbrev wbSlot (k : Fin 8) : Memref sig .tc .vmem S256x2048 .f32 := (wbSlice k).squeeze S256x2048 squeezes_S1x256x2048_S256x2048
/-- Slot `j` of the receive buffer, with its leading unit axis. -/
abbrev commSlice (j : Fin 7) : Memref sig .tc .vmem S1x256x256 .bf16 := commM.slice (commRect j) (fun _ => rfl)
/-- Slot `j` of the receive buffer as a matrix. -/
abbrev commSlot (j : Fin 7) : Memref sig .tc .vmem S256x256 .bf16 := (commSlice j).squeeze S256x256 squeezes_S1x256x256_S256x256

/-! ## Semaphores -/

/-- The semaphore of the copy of the columns. -/
abbrev xS : DmaSem sig := cc0_scratch5.sem
/-- The send semaphore of transfer `j`. -/
abbrev sendS (j : Fin 7) : DmaSem sig :=
  ((cc0_scratch6.slice (Rect.unit (s := S7) ![j.val] S1.size (inb_s7 j))).squeeze S_ squeezes_S1_S_).sem
/-- The receive semaphore of transfer `j`. -/
abbrev recvS (j : Fin 7) : DmaSem sig :=
  ((cc0_scratch7.slice (Rect.unit (s := S7) ![j.val] S1.size (inb_s7 j))).squeeze S_ squeezes_S1_S_).sem
/-- The semaphore of weight copy `k`. -/
abbrev wS (k : Fin 8) : DmaSem sig :=
  ((cc0_scratch8.slice (Rect.unit (s := S8) ![k.val] S1.size (inb_s8 k))).squeeze S_ squeezes_S1_S_).sem
/-- The semaphore of the copy of the result. -/
abbrev oS : DmaSem sig := cc0_scratch9.sem
/-- The barrier semaphore. -/
abbrev barS : Sem sig := (SemArray.scalar (sig.barrier 0 rfl) : Sems sig S_).sem

/-- What a transfer semaphore is for. -/
inductive Role
  | x | send (j : Fin 7) | recv (j : Fin 7) | w (k : Fin 8) | out
  deriving DecidableEq

/-- Every transfer semaphore's use: 24 of them, in order. -/
def role (s : DmaSem sig) : Role :=
  if s.val < 1 then .x
  else if h : s.val - 1 < 7 then .send ⟨s.val - 1, h⟩
  else if h : s.val - 8 < 7 then .recv ⟨s.val - 8, h⟩
  else if h : s.val - 15 < 8 then .w ⟨s.val - 15, h⟩
  else .out

/-- It is the first transfer semaphore. -/
theorem xS_eq : xS = (⟨0, by decide⟩ : DmaSem sig) := by decide
/-- The next seven are the send semaphores. -/
theorem sendS_eq (j : Fin 7) : sendS j = (⟨1 + j.val, by have := j.isLt; show _ < 24; omega⟩ : DmaSem sig) := by revert j; decide
/-- Then the seven receive semaphores. -/
theorem recvS_eq (j : Fin 7) : recvS j = (⟨8 + j.val, by have := j.isLt; show _ < 24; omega⟩ : DmaSem sig) := by revert j; decide
/-- Then the eight of the weight copies. -/
theorem wS_eq (k : Fin 8) : wS k = (⟨15 + k.val, by have := k.isLt; show _ < 24; omega⟩ : DmaSem sig) := by revert k; decide
/-- The last is the result's. -/
theorem oS_eq : oS = (⟨23, by decide⟩ : DmaSem sig) := by decide

/-- The use of the columns' semaphore. -/
theorem role_x : role xS = .x := by decide
/-- The use of a send semaphore. -/
theorem role_send (j : Fin 7) : role (sendS j) = .send j := by revert j; decide
/-- The use of a receive semaphore. -/
theorem role_recv (j : Fin 7) : role (recvS j) = .recv j := by revert j; decide
/-- The use of a weight copy's semaphore. -/
theorem role_w (k : Fin 8) : role (wS k) = .w k := by revert k; decide
/-- The use of the result's semaphore. -/
theorem role_out : role oS = .out := by decide

/-! ## Offsets -/

/-- Step `k` of device `c` reads row block `c - k` of the weights. -/
theorem off1_eq (c : Dev nD) (k : Fin 8) : k0_off1 c (BitVec.ofNat 32 k.val) = ![256 * (c - k : Fin 8).val, 0] := by
  revert c k; decide +kernel
/-- Transfer `j` of device `c` sends row block `c + (j + 1)` of the narrowed operand. -/
theorem off2_eq (c : Dev nD) (j : Fin 7) : k0_off2 c (BitVec.ofNat 32 (1 + j.val)) = ![256 * (up c j).val, 0] := by
  revert c j; decide +kernel
/-- Device `c`'s own rows are row block `c`. -/
theorem off3_eq (c : Dev nD) : k0_off3 c = ![256 * c.val, 0] := by
  revert c; decide +kernel

end Cert.MatGelu

end
-- ==== Proof.Parts.lean ====
/-
# Splitting the buffers into the parts the transfers move

The narrowed operand splits into eight row blocks, the weight matrix into the eight row blocks the
steps read, the weight buffer and the receive buffer into their slots.
-/
module

public import proofs.«01_k».proof.Proof.Mesh

@[expose] public section

noncomputable section

namespace Cert.MatGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The ghost state of the cells' rounds; a cell has up to seven duties. -/
abbrev UB : Type := URounds (GSem nD τ sig) (Fin 7)
/-- With the launch's own. -/
abbrev UU : Type := UR sig nD τ × UB

local notation "𝕄" => MT nD τ sig Unit (Elt F) ℕ UU ℕ

/-- The launch's own ghost state. -/
abbrev EP : Emb (UR sig nD τ) (MT nD τ sig Unit (Elt F) ℕ UU ℕ) := embL
/-- The cells' ghost state. -/
abbrev ER : Emb UB (MT nD τ sig Unit (Elt F) ℕ UU ℕ) := embR

/-! ## Row blocks -/

/-- Row block `c + k` of the narrowed operand: the one device `c` keeps at `k = 0`, else the one transfer `k - 1` sends. -/
def rowRect (c : Dev nD) (k : Fin 8) : Rect S2048x256 := Fin.cases (motive := fun _ => Rect S2048x256) (ownRect c) (sRect c) k

/-- The first row block is the device's own. -/
theorem rowRect_zero (c : Dev nD) : rowRect c 0 = ownRect c := rfl
/-- The others are those that it sends. -/
theorem rowRect_succ (c : Dev nD) (j : Fin 7) : rowRect c j.succ = sRect c j := rfl

/-- Row blocks are contiguous. -/
theorem rowRect_stride (c : Dev nD) (k : Fin 8) : ∀ a, (rowRect c k).stride a = 1 := by
  refine Fin.cases ?_ (fun j => ?_) k
  · exact fun _ => rfl
  · exact fun _ => rfl

/-- An element is in a row block just when its row is one of the block's. -/
theorem mem_rows {n b : Nat} {off : Fin 2 → Nat} {inb} {i : S2048x256.Idx} (hoff : off = ![256 * b, 0]) :
    i ∈ (Rect.unit (s := S2048x256) off S256x256.size inb).set ↔ (i 0).val / 256 = b := by
  subst hoff
  rw [Rect.mem_set_unit]
  constructor
  · intro h
    have h0 := h 0
    have e1 : (![256 * b, 0] : Fin 2 → Nat) 0 = 256 * b := rfl
    have e2 : S256x256.size 0 = 256 := rfl
    rw [e1, e2] at h0
    omega
  · intro h a
    fin_cases a
    · show 256 * b ≤ (i 0).val ∧ (i 0).val < 256 * b + 256
      omega
    · show 0 ≤ (i 1).val ∧ (i 1).val < 0 + 256
      have : (i 1).val < 256 := (i 1).isLt
      omega

/-- An element lies in row block `k` of device `c`'s numbering when its row is one of the 256 of block `c + k`. -/
theorem mem_rowRect (c : Dev nD) (k : Fin 8) (i : S2048x256.Idx) : i ∈ (rowRect c k).set ↔ (i 0).val / 256 = (c + k : Fin 8).val := by
  refine Fin.cases ?_ (fun j => ?_) k
  · rw [rowRect_zero, show (c + 0 : Fin 8) = c from add_zero c]
    exact mem_rows (n := 0) (off3_eq c)
  · rw [rowRect_succ]
    exact mem_rows (n := 0) (off2_eq c j)

/-- Two different row blocks share no element. -/
theorem rowRect_disj (c : Dev nD) (k k' : Fin 8) (h : k ≠ k') : Disjoint (rowRect c k).set (rowRect c k').set := by
  rw [Finset.disjoint_left]
  intro i hi hi'
  rw [mem_rowRect] at hi hi'
  exact h (add_left_cancel (Fin.ext (hi.symm.trans hi') : (c + k : Fin 8) = c + k'))

/-- The eight row blocks are the whole operand. -/
theorem rowRect_cover (c : Dev nD) : (Finset.univ : Finset (Fin 8)).biUnion (fun k => (rowRect c k).set) = Finset.univ := by
  ext i
  simp only [Finset.mem_biUnion, Finset.mem_univ, true_and, iff_true]
  have hi : (i 0).val < 2048 := (i 0).isLt
  refine ⟨(⟨(i 0).val / 256, by omega⟩ : Fin 8) - c, ?_⟩
  rw [mem_rowRect, add_sub_cancel]

/-- An element of the weight matrix lies in the block of step `k` when its row is one of the 256 of block `c - k`. -/
theorem mem_wRect (c : Dev nD) (k : Fin 8) (i : S2048x2048.Idx) : i ∈ (wRect c k).set ↔ (i 0).val / 256 = (c - k : Fin 8).val := by
  have hoff := off1_eq c k
  generalize hO : k0_off1 c (BitVec.ofNat 32 k.val) = off at hoff
  show i ∈ (Rect.unit (s := S2048x2048) (k0_off1 c (BitVec.ofNat 32 k.val)) S256x2048.size _).set ↔ _
  rw [Rect.mem_set_unit, hO, hoff]
  constructor
  · intro h
    have h0 : 256 * (c - k : Fin 8).val ≤ (i 0).val ∧ (i 0).val < 256 * (c - k : Fin 8).val + 256 := h 0
    omega
  · intro h a
    fin_cases a
    · show 256 * (c - k : Fin 8).val ≤ (i 0).val ∧ (i 0).val < 256 * (c - k : Fin 8).val + 256
      omega
    · show 0 ≤ (i 1).val ∧ (i 1).val < 0 + 2048
      have : (i 1).val < 2048 := (i 1).isLt
      omega

/-- The weight blocks of two different steps share no element. -/
theorem wRect_disj (c : Dev nD) (k k' : Fin 8) (h : k ≠ k') : Disjoint (wRect c k).set (wRect c k').set := by
  rw [Finset.disjoint_left]
  intro i hi hi'
  rw [mem_wRect] at hi hi'
  exact h (sub_right_injective (Fin.ext (hi.symm.trans hi') : (c - k : Fin 8) = c - k'))

/-- The eight steps' weight blocks are the whole weight matrix. -/
theorem wRect_cover (c : Dev nD) : (Finset.univ : Finset (Fin 8)).biUnion (fun k => (wRect c k).set) = Finset.univ := by
  ext i
  simp only [Finset.mem_biUnion, Finset.mem_univ, true_and, iff_true]
  have hi : (i 0).val < 2048 := (i 0).isLt
  refine ⟨c - (⟨(i 0).val / 256, by omega⟩ : Fin 8), ?_⟩
  rw [mem_wRect, sub_sub_cancel]

/-! ## Slots -/

/-- An element of the weight buffer lies in slot `k` when its first coordinate is `k`. -/
theorem mem_wbRect (k : Fin 8) (i : S8x256x2048.Idx) : i ∈ (wbRect k).set ↔ (i 0).val = k.val := by
  show i ∈ (Rect.unit (s := S8x256x2048) ![k.val, 0, 0] S1x256x2048.size _).set ↔ _
  rw [Rect.mem_set_unit]
  constructor
  · intro h
    have h0 : k.val ≤ (i 0).val ∧ (i 0).val < k.val + 1 := h 0
    omega
  · intro h a
    fin_cases a
    · show k.val ≤ (i 0).val ∧ (i 0).val < k.val + 1
      omega
    · show 0 ≤ (i 1).val ∧ (i 1).val < 0 + 256
      have : (i 1).val < 256 := (i 1).isLt
      omega
    · show 0 ≤ (i 2).val ∧ (i 2).val < 0 + 2048
      have : (i 2).val < 2048 := (i 2).isLt
      omega

/-- Different slots of the weight buffer are disjoint. -/
theorem wbRect_disj (k k' : Fin 8) (h : k ≠ k') : Disjoint (wbRect k).set (wbRect k').set := by
  rw [Finset.disjoint_left]
  intro i hi hi'
  rw [mem_wbRect] at hi hi'
  exact h (Fin.ext (hi.symm.trans hi'))

/-- The slots make up the weight buffer. -/
theorem wbRect_cover : (Finset.univ : Finset (Fin 8)).biUnion (fun k => (wbRect k).set) = Finset.univ := by
  ext i
  simp only [Finset.mem_biUnion, Finset.mem_univ, true_and, iff_true]
  refine ⟨⟨(i 0).val, (i 0).isLt⟩, ?_⟩
  rw [mem_wbRect]

/-- An element of the receive buffer lies in slot `j` when its first coordinate is `j`. -/
theorem mem_commRect (j : Fin 7) (i : S7x256x256.Idx) : i ∈ (commRect j).set ↔ (i 0).val = j.val := by
  show i ∈ (Rect.unit (s := S7x256x256) ![j.val, 0, 0] S1x256x256.size _).set ↔ _
  rw [Rect.mem_set_unit]
  constructor
  · intro h
    have h0 : j.val ≤ (i 0).val ∧ (i 0).val < j.val + 1 := h 0
    omega
  · intro h a
    fin_cases a
    · show j.val ≤ (i 0).val ∧ (i 0).val < j.val + 1
      omega
    · show 0 ≤ (i 1).val ∧ (i 1).val < 0 + 256
      have : (i 1).val < 256 := (i 1).isLt
      omega
    · show 0 ≤ (i 2).val ∧ (i 2).val < 0 + 256
      have : (i 2).val < 256 := (i 2).isLt
      omega

/-- Different slots of the receive buffer are disjoint. -/
theorem commRect_disj (j j' : Fin 7) (h : j ≠ j') : Disjoint (commRect j).set (commRect j').set := by
  rw [Finset.disjoint_left]
  intro i hi hi'
  rw [mem_commRect] at hi hi'
  exact h (Fin.ext (hi.symm.trans hi'))

/-- The slots make up the receive buffer. -/
theorem commRect_cover : (Finset.univ : Finset (Fin 7)).biUnion (fun j => (commRect j).set) = Finset.univ := by
  ext i
  simp only [Finset.mem_biUnion, Finset.mem_univ, true_and, iff_true]
  refine ⟨⟨(i 0).val, (i 0).isLt⟩, ?_⟩
  rw [mem_commRect]

/-! ## Ownership -/

/-- Owning a part through a view that drops a unit axis is owning the part, the contents re-indexed. -/
theorem owns_squeeze (c : Thread nD τ) {sp : Space} {s s' : Shape} {e : EltTy} (M : Memref sig c.2.kind sp s e)
    (hq : s.Squeezes s') (q : PosShare TreeShare) (Y : s'.Idx → Elt F e) :
    (owns c (M.squeeze s' hq) q Y : sProp 𝕄) = owns c M q (fun i => Y ((Shape.reshapeEquiv hq.numel_eq).symm i)) := by
  unfold owns
  have hset : (M.squeeze s' hq).view.set = M.view.set := View.set_reshape _ _
  have hiff (f : M.view.ty.Contents (Elt F)) : ((M.squeeze s' hq).view.read (Elt F) f = Y)
      = (M.view.read (Elt F) f = fun i => Y ((Shape.reshapeEquiv hq.numel_eq).symm i)) := by
    have hr : (M.squeeze s' hq).view.read (Elt F) f = fun j => M.view.read (Elt F) f (Shape.reshapeEquiv hq.numel_eq j) := rfl
    rw [hr]
    refine propext ⟨fun h => funext fun i => ?_, fun h => funext fun j => ?_⟩
    · rw [← h]; simp only [Equiv.apply_symm_apply]
    · rw [h]; simp only [Equiv.symm_apply_apply]
  have step (f : M.view.ty.Contents (Elt F)) :
      (iprop(⌜(M.squeeze s' hq).view.read (Elt F) f = Y⌝ ∗ ((M.squeeze s' hq).view.loc c ↦[(M.squeeze s' hq).view.set]{q} f)) : sProp 𝕄)
        = iprop(⌜M.view.read (Elt F) f = fun i => Y ((Shape.reshapeEquiv hq.numel_eq).symm i)⌝ ∗ (M.view.loc c ↦[M.view.set]{q} f)) := by
    rw [hiff f, hset]
  exact congrArg _ (funext step)

end Cert.MatGelu

end
-- ==== Proof.Flat.lean ====
/-
# The body as one list of steps

The body's memory operations in order, each written with the parts and semaphores of `Mesh`. The
printed body is this program.
-/
module

public import proofs.«01_k».proof.Proof.Mesh

@[expose] public section

noncomputable section

namespace Cert.MatGelu

open Cert.KernelIdeal Cert.KernelIdeal.Gen
open Idealize.SL.Sem (Prog)
open Idealize.ShloMosaic Idealize.ShloMosaic.TcCoe

variable {F : FTy → Type} [FloatOps F]

/-- The type of the body's programs. -/
abbrev Body (F : FTy → Type) [FloatOps F] := Prog (TpuEff nD τ sig (Elt F) Λ₀ Proc.tc) PUnit.{1}

/-! ## The steps -/

/-- Start copying the device's operand into vector memory. -/
abbrev copyX (K : Body F) : Body F :=
  Prog.op (.enqueueDma xM (.here xvM) (.dma xS) (Memref.isWhole_whole _).wordExact (Memref.isWhole_whole _).wordExact
    ⟨Or.inl rfl, trivial⟩) fun _ => K
/-- Start copying weight row block number `k` into slot `k`. -/
abbrev copyW (c : Dev nD) (k : Fin 8) (K : Body F) : Body F :=
  Prog.op (.enqueueDma (wRow c k) (.here (wbSlot k)) (.dma (wS k)) (View.wordExact_bits rfl)
    ((View.wordExact_bits rfl).reshape _ _) ⟨Or.inl rfl, trivial⟩) fun _ => K
/-- Signal device `n`'s barrier semaphore. -/
abbrev signal (n : Dev nD) (K : Body F) : Body F := Prog.op (.semSignal (Dev.tc n) barS 1) fun _ => K
/-- Wait for seven signals. -/
abbrev waitBar (K : Body F) : Body F := Prog.op (.semWait barS 7) fun _ => K
/-- Wait for the operand. -/
abbrev waitX (K : Body F) : Body F :=
  Prog.op (.waitDma2 xS xM xvM (Memref.isWhole_whole _).wordExact (Memref.isWhole_whole _).wordExact) fun _ => K
/-- Read the whole operand. -/
abbrev loadX (K : Vec F S2048x256 .f32 → Body F) : Body F :=
  Prog.op (.load xvM (Rect.unit (s := S2048x256) ![0, 0] S2048x256.size inb_S2048x256_S2048x256_0_0).toLoadRect
    (View.loadsAt_vmem h_S2048x256)) K
/-- Read the whole narrowed operand. -/
abbrev loadB (K : Vec F S2048x256 .bf16 → Body F) : Body F :=
  Prog.op (.load xbM (Rect.unit (s := S2048x256) ![0, 0] S2048x256.size inb_S2048x256_S2048x256_0_0).toLoadRect
    (View.loadsAt_vmem h_S2048x256)) K
/-- Write the whole narrowed operand. -/
abbrev storeB (v : FVec F S2048x256 .bf16) (K : Body F) : Body F :=
  Prog.op (.store xbM (Rect.unit (s := S2048x256) ![0, 0] S2048x256.size inb_S2048x256_S2048x256_0_0) v Finset.univ
    (View.stores_vmem h_S2048x256 ((Memref.isWhole_whole _).storeExact_slice rfl _ packedbf16_S2048x256_S2048x256_0_0)
      (fun _ => rfl)) (.inl rfl)) fun _ => K
/-- Start transfer number `j`, to slot `j` of device `n`. -/
abbrev send (c : Dev nD) (j : Fin 7) (n : Dev nD) (K : Body F) : Body F :=
  Prog.op (.enqueueDma (sRow c j) (.remote (Dev.tc n) (commSlot j) (.dma (sendS j))) (.dma (recvS j))
    ((Memref.isWhole_whole _).wordExact_slice rfl _ (k0_off2_wordsbf16 c j))
    (((Memref.isWhole_whole _).wordExact_slice rfl _ (words_comm j)).reshape _ _) ⟨⟨rfl, Or.inl rfl⟩, trivial⟩) fun _ => K
/-- Wait for weight row block number `k`. -/
abbrev waitW (c : Dev nD) (k : Fin 8) (K : Body F) : Body F :=
  Prog.op (.waitDma2 (wS k) (wRow c k) (wbSlot k) (View.wordExact_bits rfl) ((View.wordExact_bits rfl).reshape _ _)) fun _ => K
/-- Wait for what the device `j + 1` places back sends. -/
abbrev waitR (c : Dev nD) (j : Fin 7) (K : Body F) : Body F :=
  Prog.op (.waitDma2 (recvS j) (sRow c j) (commSlot j)
    ((Memref.isWhole_whole _).wordExact_slice rfl _ (k0_off2_wordsbf16 c j))
    (((Memref.isWhole_whole _).wordExact_slice rfl _ (words_comm j)).reshape _ _)) fun _ => K
/-- Wait until transfer number `j` has read its source. -/
abbrev waitS (c : Dev nD) (j : Fin 7) (K : Body F) : Body F :=
  Prog.op (.waitDma2 (sendS j) (commSlot j) (sRow c j)
    (((Memref.isWhole_whole _).wordExact_slice rfl _ (words_comm j)).reshape _ _)
    ((Memref.isWhole_whole _).wordExact_slice rfl _ (k0_off2_wordsbf16 c j))) fun _ => K
/-- Read the device's own rows of the narrowed operand. -/
abbrev loadOwn (c : Dev nD) (K : Vec F S256x256 .bf16 → Body F) : Body F :=
  Prog.op (.load xbM (ownRect c).toLoadRect (View.loadsAt_vmem h_S256x256)) K
/-- Read weight slot `k`. -/
abbrev loadW (k : Fin 8) (K : Vec F S1x256x2048 .f32 → Body F) : Body F :=
  Prog.op (.load wbM (wbRect k).toLoadRect (View.loadsAt_vmem h_S1x256x2048)) K
/-- Read receive slot `j`. -/
abbrev loadR (j : Fin 7) (K : Vec F S1x256x256 .bf16 → Body F) : Body F :=
  Prog.op (.load commM (commRect j).toLoadRect (View.loadsAt_vmem h_S1x256x256)) K
/-- Read the output buffer. -/
abbrev loadO (K : Vec F S256x2048 .f32 → Body F) : Body F :=
  Prog.op (.load ovM (Rect.unit (s := S256x2048) ![0, 0] S256x2048.size inb_S256x2048_S256x2048_0_0).toLoadRect
    (View.loadsAt_vmem h_S256x2048)) K
/-- Write the output buffer. -/
abbrev storeO (v : FVec F S256x2048 .f32) (K : Body F) : Body F :=
  Prog.op (.store ovM (Rect.unit (s := S256x2048) ![0, 0] S256x2048.size inb_S256x2048_S256x2048_0_0) v Finset.univ
    (View.stores_vmem_bits_univ h_S256x2048 rfl) (.inl rfl)) fun _ => K
/-- Start copying the output buffer to the result. -/
abbrev copyO (K : Body F) : Body F :=
  Prog.op (.enqueueDma ovM (.here yM) (.dma oS) (Memref.isWhole_whole _).wordExact (Memref.isWhole_whole _).wordExact
    ⟨Or.inl rfl, trivial⟩) fun _ => K
/-- Wait for the result. -/
abbrev waitO (K : Body F) : Body F :=
  Prog.op (.waitDma2 oS ovM yM (Memref.isWhole_whole _).wordExact (Memref.isWhole_whole _).wordExact) fun _ => K
/-- Wait for the next received block and the weight block it meets, and read both. -/
abbrev step (c : Dev nD) (j : Fin 7) (K : Vec F S1x256x256 .bf16 → Vec F S1x256x2048 .f32 → Body F) : Body F :=
  waitR c j <| loadR j fun x => waitW c j.succ <| loadW j.succ fun w => K x w

/-! ## The phases -/

/-- Start all copies into vector memory. -/
abbrev startCopies (c : Dev nD) (K : Body F) : Body F :=
  copyX <| copyW c 0 <| copyW c 1 <| copyW c 2 <| copyW c 3 <| copyW c 4 <| copyW c 5 <| copyW c 6 <| copyW c 7 K
/-- Signal the seven other devices. -/
abbrev signals (c : Dev nD) (K : Body F) : Body F :=
  signal (sigDev c 0) <| signal (sigDev c 1) <| signal (sigDev c 2) <| signal (sigDev c 3) <| signal (sigDev c 4) <|
    signal (sigDev c 5) <| signal (sigDev c 6) K
/-- Narrow the operand. -/
abbrev narrow (K : Body F) : Body F := waitX <| loadX fun x => loadB fun _ => storeB (k0_pay1 x) K
/-- Start the seven transfers. -/
abbrev sends (c : Dev nD) (K : Body F) : Body F :=
  send c 0 (sendDev c 0) <| send c 1 (sendDev c 1) <| send c 2 (sendDev c 2) <| send c 3 (sendDev c 3) <|
    send c 4 (sendDev c 4) <| send c 5 (sendDev c 5) <| send c 6 (sendDev c 6) K
/-- Await the seven transfers. -/
abbrev waitSends (c : Dev nD) (K : Body F) : Body F :=
  waitS c 0 <| waitS c 1 <| waitS c 2 <| waitS c 3 <| waitS c 4 <| waitS c 5 <| waitS c 6 K

/-- The value the body stores, of the blocks it reads. -/
abbrev outOf (a : Vec F S256x256 .bf16) (w0 : Vec F S1x256x2048 .f32)
    (x1 : Vec F S1x256x256 .bf16) (w1 : Vec F S1x256x2048 .f32) (x2 : Vec F S1x256x256 .bf16) (w2 : Vec F S1x256x2048 .f32)
    (x3 : Vec F S1x256x256 .bf16) (w3 : Vec F S1x256x2048 .f32) (x4 : Vec F S1x256x256 .bf16) (w4 : Vec F S1x256x2048 .f32)
    (x5 : Vec F S1x256x256 .bf16) (w5 : Vec F S1x256x2048 .f32) (x6 : Vec F S1x256x256 .bf16) (w6 : Vec F S1x256x2048 .f32)
    (x7 : Vec F S1x256x256 .bf16) (w7 : Vec F S1x256x2048 .f32) : FVec F S256x2048 .f32 :=
  let v470 := k0_pay5 (k0_pay3 (k0_pay2 a w0 x1 w1) x2 w2) (k0_pay4 x3) w3 x4 w4
  let v489 := k0_pay6 v470 x5 w5
  k0_pay11 (k0_pay8 v489 (k0_pay7 x6) w6 x7 w7) (k0_pay9 v489 (k0_pay7 x6) w6 x7 w7) (k0_pay10 (F := F))

/-- The body of device `c`. -/
abbrev flatAt (c : Dev nD) : Body F :=
  startCopies c <| signals c <| waitBar <| narrow <| sends c <|
    waitW c 0 <| loadOwn c fun a => loadW 0 fun w0 =>
      step c 0 fun x1 w1 => step c 1 fun x2 w2 => step c 2 fun x3 w3 => step c 3 fun x4 w4 =>
        step c 4 fun x5 w5 => step c 5 fun x6 w6 => step c 6 fun x7 w7 =>
          loadO fun _ => storeO (outOf a w0 x1 w1 x2 w2 x3 w3 x4 w4 x5 w5 x6 w6 x7 w7) <|
            copyO <| waitO <| waitSends c <| Prog.ret ⟨⟩
/-- The whole body: a device asks which it is, then runs. -/
def flat : Body F := Prog.op .deviceId flatAt

set_option maxRecDepth 65536 in
/-- The printed body is this program. -/
theorem body_eq_flat :
    cc0_body (F := F) xM (Memref.isWhole_whole _) wM (Memref.isWhole_whole _) yM (Memref.isWhole_whole _)
      xvM (Memref.isWhole_whole _) xbM (Memref.isWhole_whole _) commM (Memref.isWhole_whole _)
      wbM (Memref.isWhole_whole _) ovM (Memref.isWhole_whole _) cc0_scratch5 cc0_scratch6 cc0_scratch7
      cc0_scratch8 cc0_scratch9 = flat (F := F) := by
  rw [cc0_body_eq_skeleton]
  rfl

end Cert.MatGelu

end
-- ==== Proof.Cells.lean ====
/-
# What each semaphore counts and what its waits hand over

Every semaphore of every device is one cell with a single round. A transfer's semaphore receives
its credit once, and the wait on it hands over what the transfer moved: the landed contents, and the
source where it is the same device's. A device's barrier semaphore receives seven units, one from
each other device; the unit a device sends hands over the receive slot its partner will write.
-/
module

public import proofs.«01_k».proof.Proof.Parts
public import proofs.«01_k».proof.Proof.Flat

@[expose] public section

noncomputable section

namespace Cert.MatGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- Device `c`'s columns of the first operand. -/
def X (c : Dev nD) : S2048x256.Idx → Elt F .f32 := m ((c : Thread nD τ).loc main_arg0)
/-- Device `c`'s copy of the weight matrix. -/
def W (c : Dev nD) : S2048x2048.Idx → Elt F .f32 := m ((c : Thread nD τ).loc main_arg1)
/-- The first operand narrowed. -/
def xb (c : Dev nD) : S2048x256.Idx → Elt F .bf16 := k0_pay1 (F := F) (X m c)
/-- The weight rows of step `k`. -/
def wblk (c : Dev nD) (k : Fin 8) : S256x2048.Idx → Elt F .f32 := fun i => W m c ((wRect c k).emb i)
/-- The narrowed rows device `c` keeps. -/
def ownBlk (c : Dev nD) : S256x256.Idx → Elt F .bf16 := fun i => xb m c ((ownRect c).emb i)
/-- The narrowed rows device `c`'s transfer `j` sends. -/
def xblk (c : Dev nD) (j : Fin 7) : S256x256.Idx → Elt F .bf16 := fun i => xb m c ((sRect c j).emb i)
/-- A weight block as a slot of the weight buffer. -/
def wv (c : Dev nD) (k : Fin 8) : S1x256x2048.Idx → Elt F .f32 :=
  fun i => wblk m c k ((Shape.reshapeEquiv squeezes_S1x256x2048_S256x2048.numel_eq).symm i)
/-- The block device `c` receives in slot `j`, as a slot of the receive buffer. -/
def rv (c : Dev nD) (j : Fin 7) : S1x256x256.Idx → Elt F .bf16 :=
  fun i => xblk m (dn c j) j ((Shape.reshapeEquiv squeezes_S1x256x256_S256x256.numel_eq).symm i)
/-- Device `c`'s result. -/
def res (c : Dev nD) : S256x2048.Idx → Elt F .f32 :=
  outOf (F := F) (ownBlk m c) (wv m c 0) (rv m c 0) (wv m c 1) (rv m c 1) (wv m c 2) (rv m c 2) (wv m c 3) (rv m c 3) (wv m c 4)
    (rv m c 4) (wv m c 5) (rv m c 5) (wv m c 6) (rv m c 6) (wv m c 7)

/-- Device `c` owns `M` and it holds `Z`. -/
abbrev has (c : Dev nD) {sp : Space} {sh : Shape} {e : EltTy} (M : Memref sig .tc sp sh e) (Z : sh.Idx → Elt F e) : sProp 𝕄 :=
  owns (c : Thread nD τ) M fullShare Z
/-- Device `c` owns `M`, whatever it holds. -/
abbrev free (c : Dev nD) {sp : Space} {sh : Shape} {e : EltTy} (M : Memref sig .tc sp sh e) : sProp 𝕄 :=
  iprop(∃ Z : sh.Idx → Elt F e, has c M Z)

/-! ## The cells -/

/-- Semaphore `s` of device `c`. -/
abbrev cell (c : Dev nD) (s : SemLoc sig) : GSem nD τ sig := ((c : Thread nD τ), s)
/-- The barrier's cell of device `c`. -/
abbrev barCell (c : Dev nD) : GSem nD τ sig := cell c (.reg barS)
/-- The cell of a transfer semaphore of device `c`. -/
abbrev dmaCell (c : Dev nD) (s : DmaSem sig) : GSem nD τ sig := cell c (.dma s)

/-- The credit of a transfer of each kind. -/
def amt : Role → ℕ
  | .x => xvM.view.dmaCredit
  | .send _ => (commSlot 0).view.dmaCredit
  | .recv _ => (commSlot 0).view.dmaCredit
  | .w _ => (wbSlot 0).view.dmaCredit
  | .out => yM.view.dmaCredit

/-- Every transfer has some credit. -/
theorem amt_pos (r : Role) : 0 < amt r := by
  cases r <;> exact View.dmaCredit_pos _ (by decide)

/-- What the wait on a transfer's semaphore hands device `c`. -/
def dmaPay (c : Dev nD) : Role → sProp 𝕄
  | .x => iprop(has c xvM (X m c) ∗ has c xM (X m c))
  | .send j => has c (sRow c j) (xblk m c j)
  | .recv j => has c (commSlot j) (xblk m (dn c j) j)
  | .w k => iprop(has c (wbSlot k) (wblk m c k) ∗ has c (wRow c k) (wblk m c k))
  | .out => iprop(has c yM (res m c) ∗ has c ovM (res m c))
/-- What unit `j` of device `c`'s barrier hands it: a receive slot of the device that sent the unit. -/
def barPay (c : Dev nD) (j : Fin 7) : sProp 𝕄 := free (F := F) (dn c j) (commSlot j.rev)

omit [FloatOps F] in
/-- What a barrier unit hands over may lie in an invariant. -/
instance barPay_storable (c : Dev nD) (j : Fin 7) : BI.Storable (upEmb : UEmb _ 𝕄) (barPay (F := F) c j) := by
  unfold barPay; infer_instance
/-- So may what a transfer hands over. -/
instance dmaPay_storable (c : Dev nD) (r : Role) : BI.Storable (upEmb : UEmb _ 𝕄) (dmaPay m c r) := by
  cases r <;> (unfold dmaPay; infer_instance)

/-- The one round of every cell. -/
def Rd : Rounds.Schedule (GSem nD τ sig) (Fin 7) 𝕄 where
  duties g r := if r = 0 then (match g.2 with | .reg _ => Finset.univ | .dma _ => {0}) else ∅
  unitless _ := False
  amount g _ _ := match g.2 with | .reg _ => 1 | .dma s => amt (role s)
  payload g _ d := match g.2 with | .reg _ => barPay g.1.1 d | .dma s => dmaPay m g.1.1 (role s)
  amount_pos g _ _ _ := by
    rcases g with ⟨t, _ | s⟩
    · exact Nat.one_pos
    · exact amt_pos _

/-- So may every payload of the schedule. -/
instance Rd_payload_storable (g : GSem nD τ sig) (r : ℕ) (d : Fin 7) :
    BI.Storable (upEmb : UEmb _ 𝕄) ((Rd (F := F) m).payload g r d) := by
  rcases g with ⟨t, _ | s⟩
  · exact barPay_storable t.1 d
  · exact dmaPay_storable m t.1 (role s)

section Table

variable (c : Dev nD)

/-- A barrier's round has seven duties, one from each other device. -/
theorem duties_bar : (Rd (F := F) m).duties (barCell c) 0 = Finset.univ := rfl
/-- A transfer's round has one duty. -/
theorem duties_dma (s : DmaSem sig) : (Rd (F := F) m).duties (dmaCell c s) 0 = {0} := rfl
/-- No cell has a second round. -/
theorem duties_later (g : GSem nD τ sig) : ∀ r, 1 ≤ r → (Rd (F := F) m).duties g r = ∅ :=
  fun r hr => if_neg (by omega)
/-- A barrier duty is one unit. -/
theorem amount_bar (d : Fin 7) : (Rd (F := F) m).amount (barCell c) 0 d = 1 := rfl
/-- A transfer's duty is its credit. -/
theorem amount_dma {s : DmaSem sig} {r : Role} (h : role s = r) (d : Fin 7) : (Rd (F := F) m).amount (dmaCell c s) 0 d = amt r := by
  subst h; rfl
/-- What a barrier unit carries. -/
theorem payload_bar (d : Fin 7) : (Rd (F := F) m).payload (barCell c) 0 d = barPay c d := rfl
/-- What a transfer's credit carries. -/
theorem payload_dma {s : DmaSem sig} {r : Role} (h : role s = r) (d : Fin 7) : (Rd (F := F) m).payload (dmaCell c s) 0 d = dmaPay m c r := by
  subst h; rfl

/-- The barrier waits for seven units. -/
theorem expect_bar : (Rd (F := F) m).expect (barCell c) 0 = 7 := by
  unfold Schedule.expect Schedule.amountOf
  rw [duties_bar, Finset.sum_congr rfl fun d _ => amount_bar m c d]
  rfl
/-- A transfer's wait is for its credit. -/
theorem expect_dma {s : DmaSem sig} {r : Role} (h : role s = r) : (Rd (F := F) m).expect (dmaCell c s) 0 = amt r := by
  unfold Schedule.expect Schedule.amountOf; rw [duties_dma, Finset.sum_singleton, amount_dma m c h]

/-- All that the barrier wait hands over. -/
theorem rest_bar : bigSep ((Rd (F := F) m).duties (barCell c) 0 \ ∅) (fun d => (Rd (F := F) m).payload (barCell c) 0 d)
    = bigSep Finset.univ fun j => barPay c j := by
  rw [Finset.sdiff_empty, duties_bar]; rfl
/-- The whole of a transfer's round hands over what the transfer moved. -/
theorem rest_dma {s : DmaSem sig} {r : Role} (h : role s = r) :
    bigSep ((Rd (F := F) m).duties (dmaCell c s) 0 \ ∅) (fun d => (Rd (F := F) m).payload (dmaCell c s) 0 d) = dmaPay m c r := by
  rw [Finset.sdiff_empty, duties_dma, bigSep_singleton, payload_dma m c h]

end Table

/-! ## What a device owes, and the order of the waits -/

/-- Device `c`'s credits to the receive cells of transfers `n` and later. -/
def oR (c : Dev nD) (n : ℕ) : CellTallies nD τ sig Unit :=
  ∑ j ∈ (Finset.univ : Finset (Fin 7)).filter (fun j => n ≤ j.val), tallyAt (dmaCell (up c j) (recvS j)) () (amt (.recv j))
/-- Those of all transfers, with the barrier units of signals `n` and later. -/
def oB (c : Dev nD) (n : ℕ) : CellTallies nD τ sig Unit :=
  oR c 0 + ∑ j ∈ (Finset.univ : Finset (Fin 7)).filter (fun j => n ≤ j.val), tallyAt (barCell (up c j)) () 1

/-- The numbers from `j` on are `j` and those after it. -/
theorem filter_step (j : Fin 7) : (Finset.univ : Finset (Fin 7)).filter (fun i => j.val ≤ i.val)
    = insert j ((Finset.univ : Finset (Fin 7)).filter (fun i => j.val + 1 ≤ i.val)) := by revert j; decide
/-- No number of seven is seven or more. -/
theorem filter_end : (Finset.univ : Finset (Fin 7)).filter (fun i => 7 ≤ i.val) = ∅ := by decide

/-- Starting transfer `j` pays the receive cell it names. -/
theorem oR_step (c : Dev nD) (j : Fin 7) :
    oR c j.val = oR c (j.val + 1) + tallyAt (dmaCell (up c j) (recvS j)) () (amt (.recv j)) := by
  unfold oR
  rw [filter_step, Finset.sum_insert (by simp), add_comm]
/-- After the last transfer no receive credit is owed. -/
theorem oR_end (c : Dev nD) : oR c 7 = 0 := by unfold oR; rw [filter_end, Finset.sum_empty]
/-- Signal `j` pays one unit of the barrier it names. -/
theorem oB_step (c : Dev nD) (j : Fin 7) : oB c j.val = oB c (j.val + 1) + tallyAt (barCell (up c j)) () 1 := by
  unfold oB
  rw [filter_step, Finset.sum_insert (by simp), add_assoc, add_comm (tallyAt (barCell (up c j)) () 1)]
/-- After the last signal only the receive credits are owed. -/
theorem oB_end (c : Dev nD) : oB c 7 = oR c 0 := by unfold oB; rw [filter_end, Finset.sum_empty, add_zero]

/-- The cells a device may owe. -/
def L (g : GSem nD τ sig) : Finset Unit := if g.1.2 = .tc then {()} else ∅
/-- Receive cells at level 2, the other transfers' at 0. -/
def roleLv : Role → ℕ
  | .recv _ => 2
  | _ => 0
/-- Barrier cells at level 1, between them. -/
def lv (g : GSem nD τ sig) (_ : Unit) : ℕ :=
  match g.2 with
  | .reg _ => 1
  | .dma s => roleLv (role s)

/-- Only the cells of the main core have a level. -/
theorem L_of_ne (g : GSem nD τ sig) (h : g.1.2 ≠ .tc) : L g = ∅ := if_neg h
/-- Each of those has one. -/
theorem L_cell (c : Dev nD) (s : SemLoc sig) : L (cell c s) = {()} := if_pos rfl
/-- A transfer cell's level, by its use. -/
theorem lv_dma (c : Dev nD) (s : DmaSem sig) {r : Role} (h : role s = r) :
    lv (dmaCell c s) () = roleLv r := by subst h; rfl

/-- A positive value of a finite sum of single tallies comes from one of them. -/
theorem sum_tally_pos {ι : Type} [DecidableEq ι] {S : Finset ι} {f : ι → GSem nD τ sig} {a : ι → ℕ} {g : GSem nD τ sig} {u : Unit}
    (h : 0 < (∑ j ∈ S, tallyAt (f j) () (a j) : CellTallies nD τ sig Unit) g u) : ∃ j, g = f j := by
  induction S using Finset.induction_on with
  | empty => rw [Finset.sum_empty] at h; exact absurd h (Nat.lt_irrefl 0)
  | insert i S hi ih =>
    rw [Finset.sum_insert hi, Pi.add_apply, Finsupp.add_apply, tallyAt_apply] at h
    by_cases e : g = f i ∧ u = ()
    · exact ⟨i, e.1⟩
    · rw [if_neg e, Nat.zero_add] at h
      exact ih h

/-- A receive credit that is owed is one of the seven peers'. -/
theorem oR_pos {c : Dev nD} {n : ℕ} {g : GSem nD τ sig} {u : Unit} (h : 0 < oR c n g u) : ∃ j, g = dmaCell (up c j) (recvS j) :=
  sum_tally_pos h
/-- What is owed is a peer's receive credit or a unit of a peer's barrier. -/
theorem oB_pos {c : Dev nD} {n : ℕ} {g : GSem nD τ sig} {u : Unit} (h : 0 < oB c n g u) :
    (∃ j, g = dmaCell (up c j) (recvS j)) ∨ ∃ j, g = barCell (up c j) := by
  unfold oB at h
  rw [Pi.add_apply, Finsupp.add_apply] at h
  rcases Nat.eq_zero_or_pos (oR c 0 g u) with h0 | h0
  · rw [h0, Nat.zero_add] at h
    exact .inr (sum_tally_pos h)
  · exact .inl (oR_pos h0)

/-- A cell at level `l` may be waited on while only cells above `l` are owed. -/
theorem mayWait_of (c : Dev nD) (s : SemLoc sig) (l : ℕ) (O : CellTallies nD τ sig Unit) (hl : lv (cell c s) () = l)
    (hO : ∀ g u, 0 < O g u → L g = {()} ∧ l < lv g u) :
    (levAts L lv : sProp 𝕄) ⊢ MayWait (c : Thread nD τ) s () O :=
  MayOwe.of_cut (L := L) (lev := lv) l (fun p hp => by rw [Finset.mem_singleton.mp hp, L_cell]; exact Finset.mem_singleton_self _)
    (fun g u hg => by rw [(hO g u hg).1]; exact Finset.mem_singleton_self _)
    (fun p hp => by rw [Finset.mem_singleton.mp hp, ← hl])
    (fun g u hg => (hO g u hg).2)

/-- A receive cell is at level 2. -/
theorem lv_recv (c : Dev nD) (j : Fin 7) (u : Unit) : lv (dmaCell c (recvS j)) u = 2 := lv_dma c (recvS j) (role_recv j)

/-- The barrier may be waited on while transfers' receive credits are owed. -/
theorem mayWait_bar (c : Dev nD) (n : ℕ) : (levAts L lv : sProp 𝕄) ⊢ MayWait (c : Thread nD τ) (.reg barS) () (oR c n) :=
  mayWait_of c _ 1 _ rfl fun g u hg => by
    obtain ⟨j, rfl⟩ := oR_pos hg
    exact ⟨L_cell _ _, by rw [lv_recv]; decide⟩
/-- So may a local transfer. -/
theorem mayWait_local (c : Dev nD) (s : DmaSem sig) (hs : lv (dmaCell c s) () = 0) (n : ℕ) :
    (levAts L lv : sProp 𝕄) ⊢ MayWait (c : Thread nD τ) (.dma s) () (oR c n) :=
  mayWait_of c _ 0 _ hs fun g u hg => by
    obtain ⟨j, rfl⟩ := oR_pos hg
    exact ⟨L_cell _ _, by rw [lv_recv]; decide⟩
/-- Anything at level 0 may be waited on from the start. -/
theorem mayWait_first (c : Dev nD) (s : SemLoc sig) (hs : lv (cell c s) () = 0) (n : ℕ) :
    (levAts L lv : sProp 𝕄) ⊢ MayWait (c : Thread nD τ) s () (oB c n) :=
  mayWait_of c _ 0 _ hs fun g u hg => by
    rcases oB_pos hg with ⟨j, rfl⟩ | ⟨j, rfl⟩
    · exact ⟨L_cell _ _, by rw [lv_recv]; decide⟩
    · exact ⟨L_cell _ _, Nat.one_pos⟩

end Cert.MatGelu

end
-- ==== Proof.Steps.lean ====
/-
# One rule for each kind of step

What a device must hold to take each kind of step of the body, and what it holds after.
-/
module

public import proofs.«01_k».proof.Proof.Cells

@[expose] public section

noncomputable section

namespace Cert.MatGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop needs a variant. -/
abbrev 𝒱₀ : Variants := Variants.none

/-- Device `c` may run `P`, ending in `Q`. -/
abbrev run (c : Dev nD) (P : Body F) (Q : PUnit.{1} → sProp 𝕄) : sProp 𝕄 :=
  wp frame (wpE (defs₀ (F := F)) 𝒱₀ (c : Thread nD τ) none) Set.univ P Q

/-- What device `c` owes, its recorded waits left open. -/
def ow (c : Dev nD) (O : CellTallies nD τ sig Unit) : sProp 𝕄 := iprop(∃ Wt : Waits sig Unit, owes (c : Thread nD τ) O Wt)

/-- Every cell's record: its invariant, and that its round is open. -/
def book (K : Dev nD × SemLoc sig → ℕ) : sProp 𝕄 :=
  bigSep Finset.univ fun g : Dev nD × SemLoc sig =>
    iprop(cellInv ER (Rd m) (K g) (cell g.1 g.2) ∗ reached ER (cell g.1 g.2) 0)

/-- The book may be copied. -/
instance book_persistent (K : Dev nD × SemLoc sig → ℕ) : BI.Persistent (book m K) := by unfold book; infer_instance

variable (K : Dev nD × SemLoc sig → ℕ)

/-- The book has every cell's invariant. -/
theorem book_inv (c : Dev nD) (s : SemLoc sig) : book m K ⊢ cellInv ER (Rd m) (K (c, s)) (cell c s) := by
  refine (bigSep_elim (Finset.mem_univ (c, s))).trans ?_
  show iprop(cellInv ER (Rd m) (K (c, s)) (cell c s) ∗ reached ER (cell c s) 0) ⊢ (cellInv ER (Rd m) (K (c, s)) (cell c s) : sProp 𝕄)
  iintro ⟨H, -⟩; iexact H
/-- The book says that every cell has reached its round. -/
theorem book_reached (c : Dev nD) (s : SemLoc sig) : book m K ⊢ reached ER (cell c s) 0 := by
  refine (bigSep_elim (Finset.mem_univ (c, s))).trans ?_
  show iprop(cellInv ER (Rd m) (K (c, s)) (cell c s) ∗ reached ER (cell c s) 0) ⊢ (reached ER (cell c s) 0 : sProp 𝕄)
  iintro ⟨-, H⟩; iexact H

/-- A local copy: the source at `Z` and the destination go into the transfer, whose credit comes back. -/
theorem step_copy (c : Dev nD) {sp sp' : Space} {sh : Shape} {e : EltTy} {src : Memref sig .tc sp sh e} {dst : Memref sig .tc sp' sh e}
    {s : DmaSem sig} {r : Role} (hr : role s = r) (hN : dst.view.amount (.dma s) = amt r) (Z : sh.Idx → Elt F e)
    (hpay : iprop(has c dst Z ∗ has c src Z) ⊢ dmaPay m c r)
    {hsrc : src.view.WordExact} {hdst : dst.view.WordExact} {hsem : DmaTarget.Typed (nD := nD) (τ := τ) sp (.dma s) (DmaTarget.here (p := Proc.tc) dst)}
    {k : PUnit → Body F} {Q : PUnit → sProp 𝕄} :
    iprop(book m K ∗ has c src Z ∗ free (F := F) c dst ∗ dutyTok ER (dmaCell c s) 0 0)
      ⊢ iprop((cred (tallyAt (dmaCell c s) () (amt r)) -∗ run c (k ⟨⟩) Q)
          -∗ run c (.op (.enqueueDma src (.here dst) (.dma s) hsrc hdst hsem) k) Q) := by
  unfold free has owns
  iintro ⟨#HB, ⟨%fs, %hfs, Hs⟩, ⟨%Z', %fd, %hfd, Hd⟩, Ht⟩ Hk
  iapply (Rounds.wp_copy_pointsTo 𝒱₀ ER (Rd m) (c : Thread nD τ) none (κ := K (c, .dma s)) (r := 0) (d := 0) (fs := fs) (fd := fd)
    (by rw [duties_dma]; exact Finset.mem_singleton_self _) () (amt r) hN (amount_dma m c hr 0)
    (by
      rw [payload_dma m c hr]
      refine .trans ?_ hpay
      unfold has owns
      subst hfs
      iintro ⟨H1, H2⟩
      isplitl [H1]
      · iexists _; isplitr; swap; · iexact H1
        ipureintro; exact View.read_write_univ _ _
      · iexists _; isplitr; swap; · iexact H2
        ipureintro; rfl)) $$ [Hs Hd Ht]
  · isplitr; · iapply (book_inv m K c (.dma s)); iexact HB
    isplitl [Hs]; · iexact Hs
    isplitl [Hd]; · iexact Hd
    isplitl [Ht]; · iexact Ht
    iapply (book_reached m K c (.dma s)); iexact HB
  iexact Hk

/-- Signal number `j`: its token and the receive slot its partner will write are handed over. -/
theorem step_signal (c : Dev nD) (j : Fin 7) {P : Body F} {Q : PUnit → sProp 𝕄} :
    iprop(book m K ∗ ow (F := F) c (oB c j.val) ∗ dutyTok ER (barCell (up c j)) 0 j ∗ free (F := F) c (commSlot j.rev))
      ⊢ iprop((ow (F := F) c (oB c (j.val + 1)) -∗ run c P Q) -∗ run c (signal (sigDev c j) P) Q) := by
  rw [sigDev_eq]
  unfold ow
  iintro ⟨#HB, ⟨%Wt, Ho⟩, Ht, Hf⟩ Hk
  iapply (Rounds.wp_signal 𝒱₀ ER (Rd m) (c : Thread nD τ) none (dst := (up c j : Thread nD τ)) (κ := K (up c j, .reg barS)) (r := 0) (d := j)
    (by rw [duties_bar]; exact Finset.mem_univ _) ((amount_bar m (up c j) j).trans (by decide)) () (oB c (j.val + 1)) (oB_step c j))
    $$ [Ho Ht Hf]
  · isplitr; · iapply (book_inv m K (up c j) (.reg barS)); iexact HB
    isplitl [Ho]; · iexact Ho
    isplitl [Ht]; · iexact Ht
    isplitl [Hf]
    · rw [payload_bar]; unfold barPay; rw [dn_up]; iexact Hf
    · iapply (book_reached m K (up c j) (.reg barS)); iexact HB
  iintro Ho
  iapply Hk
  iexists Wt; iexact Ho

/-- The barrier wait: a receive slot of every other device comes with it. -/
theorem step_waitBar (c : Dev nD) {P : Body F} {Q : PUnit → sProp 𝕄} :
    iprop(book m K ∗ levAts L lv ∗ ow (F := F) c (oB c 7) ∗ cred (tallyAt (barCell c) () 7) ∗ atPos ER (barCell c) 0 ∅ 0)
      ⊢ iprop(((ow (F := F) c (oR c 0) ∗ atPos ER (barCell c) 1 ∅ 0 ∗ bigSep Finset.univ fun j => barPay (F := F) c j) -∗ run c P Q)
          -∗ run c (waitBar P) Q) := by
  rw [oB_end]
  unfold ow
  iintro ⟨#HB, #Hl, ⟨%Wt, Ho⟩, Hc, Ha⟩ Hk
  iapply (Rounds.wp_wait_rest_token 𝒱₀ ER (Rd m) (c : Thread nD τ) none (κ := K (c, .reg barS))
      (wpE_semWait_eq 𝒱₀ (c : Thread nD τ) none Set.univ) (Set.mem_univ _) () (O := oR c 0) (W := Wt) (R := 0) (m := 0) (T := ∅)
      (by rw [expect_bar])) $$ [Hc Ho Ha]
  · isplitr; · iapply (book_inv m K c (.reg barS)); iexact HB
    isplitl [Hc]; · iexact Hc
    isplitl [Ho]; · iexact Ho
    isplitr; · iapply (mayWait_bar c 0); iexact Hl
    iexact Ha
  iintro ⟨Ho, Ha, -, Hp⟩
  iapply Hk
  isplitl [Ho]; · iexists _; iexact Ho
  isplitl [Ha]; · iexact Ha
  iapply (Entails.of_eq (rest_bar m c)); iexact Hp

/-- The wait on a transfer: what the transfer moved comes with it. -/
theorem step_wait (c : Dev nD) {s : DmaSem sig} {r : Role} (hr : role s = r) (O : CellTallies nD τ sig Unit) {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (.dma s) (amt r) Kt)
    {k : PUnit → Body F} {Q : PUnit → sProp 𝕄} :
    iprop(book m K ∗ ow (F := F) c O ∗ MayWait (c : Thread nD τ) (.dma s) () O ∗ cred (tallyAt (dmaCell c s) () (amt r))
        ∗ atPos ER (dmaCell c s) 0 ∅ 0)
      ⊢ iprop(((ow (F := F) c O ∗ atPos ER (dmaCell c s) 1 ∅ 0 ∗ dmaPay m c r) -∗ run c (k ⟨⟩) Q) -∗ run c (.op w k) Q) := by
  unfold ow
  iintro ⟨#HB, ⟨%Wt, Ho⟩, Hm, Hc, Ha⟩ Hk
  iapply (Rounds.wp_wait_rest_token 𝒱₀ ER (Rd m) (c : Thread nD τ) none (κ := K (c, .dma s))
      hw (Set.mem_univ _) () (O := O) (W := Wt) (R := 0) (m := 0) (T := ∅)
      (by rw [Nat.zero_add, expect_dma m c hr])) $$ [Hm Hc Ho Ha]
  · isplitr; · iapply (book_inv m K c (.dma s)); iexact HB
    isplitl [Hc]; · iexact Hc
    isplitl [Ho]; · iexact Ho
    isplitl [Hm]; · iexact Hm
    iexact Ha
  iintro ⟨Ho, Ha, -, Hp⟩
  iapply Hk
  isplitl [Ho]; · iexists _; iexact Ho
  isplitl [Ha]; · iexact Ha
  iapply (Entails.of_eq (rest_dma m c hr)); iexact Hp

/-- A transfer to device `n`: the source at `Z` and the destination on `n` go into it, and it pays the credit `n` awaits. -/
theorem step_remote (c n : Dev nD) {sp sp' : Space} {sh : Shape} {e : EltTy} {src : Memref sig .tc sp sh e} {dst : Memref sig .tc sp' sh e}
    {s s' : DmaSem sig} {r r' : Role} (hr : role s = r) (hr' : role s' = r') (hN : dst.view.amount (.dma s') = amt r') (hrr : amt r = amt r')
    (Z : sh.Idx → Elt F e) (hpay : has c src Z ⊢ dmaPay m c r) (hpay' : has n dst Z ⊢ dmaPay m n r')
    {O₀ : CellTallies nD τ sig Unit} (O : CellTallies nD τ sig Unit) (hO : O₀ = O + tallyAt (dmaCell n s') () (amt r'))
    {hsc : dst.view.ref.isScScratch = false} {hsrc : src.view.WordExact} {hdst : dst.view.WordExact}
    {hsem : DmaTarget.Typed (nD := nD) (τ := τ) sp (.dma s') (DmaTarget.remote (p := Proc.tc) (Dev.tc n) dst (.dma s) hsc)}
    {k : PUnit → Body F} {Q : PUnit → sProp 𝕄} :
    iprop(book m K ∗ has c src Z ∗ free (F := F) n dst ∗ ow (F := F) c O₀ ∗ dutyTok ER (dmaCell c s) 0 0 ∗ dutyTok ER (dmaCell n s') 0 0)
      ⊢ iprop(((ow (F := F) c O ∗ cred (tallyAt (dmaCell c s) () (amt r))) -∗ run c (k ⟨⟩) Q)
          -∗ run c (.op (.enqueueDma src (.remote (Dev.tc n) dst (.dma s) hsc) (.dma s') hsrc hdst hsem) k) Q) := by
  unfold ow free has owns
  iintro ⟨#HB, ⟨%fs, %hfs, Hs⟩, ⟨%Z', %fd, %hfd, Hd⟩, ⟨%Wt, Ho⟩, Ht, Ht'⟩ Hk
  iapply (Rounds.wp_send_pointsTo 𝒱₀ ER (Rd m) (c : Thread nD τ) none (c' := (n : Thread nD τ)) (κ₁ := K (c, .dma s))
    (κ₂ := K (n, .dma s')) (r₁ := 0) (r₂ := 0) (d₁ := 0) (d₂ := 0) (fs := fs) (fd := fd)
    (by rw [duties_dma]; exact Finset.mem_singleton_self _) (by rw [duties_dma]; exact Finset.mem_singleton_self _)
    () () (amt r') hN ((amount_dma m c hr 0).trans hrr) (amount_dma m n hr' 0) O hO (W := Wt)
    (by
      rw [payload_dma m c hr]
      refine .trans ?_ hpay
      unfold has owns
      iintro H; iexists _; isplitr; swap; · iexact H
      ipureintro; exact hfs)
    (by
      rw [payload_dma m n hr']
      refine .trans ?_ hpay'
      subst hfs
      unfold has owns
      iintro H; iexists _; isplitr; swap; · iexact H
      ipureintro; exact View.read_write_univ _ _)) $$ [Hs Hd Ho Ht Ht']
  · isplitr; · iapply (book_inv m K c (.dma s)); iexact HB
    isplitr; · iapply (book_inv m K n (.dma s')); iexact HB
    isplitl [Hs]; · iexact Hs
    isplitl [Hd]; · iexact Hd
    isplitl [Ho]; · iexact Ho
    isplitl [Ht]; · iexact Ht
    isplitr; · iapply (book_reached m K c (.dma s)); iexact HB
    isplitl [Ht']; · iexact Ht'
    iapply (book_reached m K n (.dma s')); iexact HB
  iintro ⟨Hc, Ho⟩
  rw [hrr]
  iapply Hk
  isplitl [Ho]; · iexists Wt; iexact Ho
  iexact Hc

/-- Transfer number `j`: its source and the partner's slot go into it, and it pays the partner's receive credit. -/
theorem step_send (c : Dev nD) (j : Fin 7) {P : Body F} {Q : PUnit → sProp 𝕄} :
    iprop(book m K ∗ has c (sRow c j) (xblk m c j) ∗ free (F := F) (up c j) (commSlot j) ∗ ow (F := F) c (oR c j.val)
        ∗ dutyTok ER (dmaCell c (sendS j)) 0 0 ∗ dutyTok ER (dmaCell (up c j) (recvS j)) 0 0)
      ⊢ iprop(((ow (F := F) c (oR c (j.val + 1)) ∗ cred (tallyAt (dmaCell c (sendS j)) () (amt (.send j)))) -∗ run c P Q)
          -∗ run c (send c j (sendDev c j) P) Q) := by
  rw [sendDev_eq]
  exact step_remote m K c (up c j) (src := sRow c j) (dst := commSlot j) (k := fun _ => P) (Q := Q) (role_send j) (role_recv j) rfl rfl (xblk m c j) .rfl
    (by show _ ⊢ has (up c j) (commSlot j) (xblk m (dn (up c j) j) j); rw [dn_up]) (oR c (j.val + 1)) (oR_step c j)

/-- Reading an owned part gives its contents. -/
theorem step_load (c : Dev nD) {cs : CoreSpace} {sh : Shape} {e : EltTy} {M : Memref sig .tc cs sh e} {r : Rect sh} (hst : ∀ a, r.stride a = 1)
    {hl : M.view.LoadsAt r.toLoadRect} (Z : r.shape.Idx → Elt F e) {k : (r.shape.Idx → Elt F e) → Body F} {Q : PUnit → sProp 𝕄} :
    has c (M.slice r hst) Z ⊢ iprop((has c (M.slice r hst) Z -∗ run c (k Z) Q) -∗ run c (.op (.load M r.toLoadRect hl) k) Q) := by
  unfold has owns
  iintro ⟨%f, %hf, H⟩ Hk
  iapply (wp_load_rect 𝒱₀ (c : Thread nD τ) none Set.univ (m := M) (r := r) (S := (M.slice r hst).view.set) (f := f) (fun _ h => h)) $$ H
  iintro H
  have hv : (M.access r).read (Elt F) f = Z := hf
  rw [hv]
  iapply Hk
  iexists f; isplitr; · ipureintro; exact hf
  iexact H

/-! ## The body's steps -/

/-- Starting the copy of the columns. -/
theorem step_copyX (c : Dev nD) {P : Body F} {Q : PUnit → sProp 𝕄} :
    iprop(book m K ∗ has c xM (X m c) ∗ free (F := F) c xvM ∗ dutyTok ER (dmaCell c xS) 0 0)
      ⊢ iprop((cred (tallyAt (dmaCell c xS) () (amt .x)) -∗ run c P Q) -∗ run c (copyX P) Q) :=
  step_copy m K c (src := xM) (dst := xvM) (k := fun _ => P) (Q := Q) role_x rfl (X m c) .rfl

/-- Starting weight copy `k`. -/
theorem step_copyW (c : Dev nD) (k : Fin 8) {P : Body F} {Q : PUnit → sProp 𝕄} :
    iprop(book m K ∗ has c (wRow c k) (wblk m c k) ∗ free (F := F) c (wbSlot k) ∗ dutyTok ER (dmaCell c (wS k)) 0 0)
      ⊢ iprop((cred (tallyAt (dmaCell c (wS k)) () (amt (.w k))) -∗ run c P Q) -∗ run c (copyW c k P) Q) :=
  step_copy m K c (src := wRow c k) (dst := wbSlot k) (k := fun _ => P) (Q := Q) (role_w k) rfl (wblk m c k) .rfl

/-- Starting the copy of the result. -/
theorem step_copyO (c : Dev nD) {P : Body F} {Q : PUnit → sProp 𝕄} :
    iprop(book m K ∗ has c ovM (res m c) ∗ free (F := F) c yM ∗ dutyTok ER (dmaCell c oS) 0 0)
      ⊢ iprop((cred (tallyAt (dmaCell c oS) () (amt .out)) -∗ run c P Q) -∗ run c (copyO P) Q) :=
  step_copy m K c (src := ovM) (dst := yM) (k := fun _ => P) (Q := Q) role_out rfl (res m c) .rfl

/-- The operand has arrived. -/
theorem step_waitX (c : Dev nD) {P : Body F} {Q : PUnit → sProp 𝕄} :
    iprop(book m K ∗ levAts L lv ∗ ow (F := F) c (oR c 0) ∗ cred (tallyAt (dmaCell c xS) () (amt .x)) ∗ atPos ER (dmaCell c xS) 0 ∅ 0)
      ⊢ iprop(((ow (F := F) c (oR c 0) ∗ atPos ER (dmaCell c xS) 1 ∅ 0 ∗ has c xvM (X m c) ∗ has c xM (X m c)) -∗ run c P Q)
          -∗ run c (waitX P) Q) := by
  iintro ⟨#HB, #Hl, Ho, Hc, Ha⟩ Hk
  iapply (step_wait m K c (k := fun _ => P) (Q := Q) role_x (oR c 0) (fun Kt => wpE_waitDma2_eq 𝒱₀ (c : Thread nD τ) none Set.univ Kt)) $$ [Ho Hc Ha]
  · isplitr; · iexact HB
    isplitl [Ho]; · iexact Ho
    isplitr; · iapply (mayWait_local c xS (lv_dma c xS role_x) 0); iexact Hl
    isplitl [Hc] <;> iassumption
  iintro ⟨Ho, Ha, Hp⟩
  iapply Hk
  isplitl [Ho]; · iexact Ho
  isplitl [Ha]; · iexact Ha
  iapply (show dmaPay m c .x ⊢ iprop(has c xvM (X m c) ∗ has c xM (X m c)) from .rfl); iexact Hp

/-- A wait once nothing is owed. -/
theorem step_waitLast (c : Dev nD) {s : DmaSem sig} {r : Role} (hr : role s = r) {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (.dma s) (amt r) Kt)
    {P : Body F} {Q : PUnit → sProp 𝕄} :
    iprop(book m K ∗ ow (F := F) c 0 ∗ cred (tallyAt (dmaCell c s) () (amt r)) ∗ atPos ER (dmaCell c s) 0 ∅ 0)
      ⊢ iprop(((ow (F := F) c 0 ∗ atPos ER (dmaCell c s) 1 ∅ 0 ∗ dmaPay m c r) -∗ run c P Q) -∗ run c (.op w fun _ => P) Q) := by
  iintro ⟨#HB, Ho, Hc, Ha⟩ Hk
  iapply (step_wait m K c (k := fun _ => P) (Q := Q) hr 0 hw) $$ [Ho Hc Ha]
  · isplitr; · iexact HB
    isplitl [Ho]; · iexact Ho
    isplitr; · rw [MayWait_zero]; iempintro
    isplitl [Hc] <;> iassumption
  iexact Hk

/-- Weight block `k` has arrived in its slot. -/
theorem step_waitW (c : Dev nD) (k : Fin 8) {P : Body F} {Q : PUnit → sProp 𝕄} :
    iprop(book m K ∗ ow (F := F) c 0 ∗ cred (tallyAt (dmaCell c (wS k)) () (amt (.w k))) ∗ atPos ER (dmaCell c (wS k)) 0 ∅ 0)
      ⊢ iprop(((ow (F := F) c 0 ∗ atPos ER (dmaCell c (wS k)) 1 ∅ 0 ∗ has c (wbSlice k) (wv m c k) ∗ has c (wRow c k) (wblk m c k)) -∗ run c P Q)
          -∗ run c (waitW c k P) Q) := by
  have h := step_waitLast m K c (P := P) (Q := Q) (role_w k)
    (w := .waitDma2 (wS k) (wRow c k) (wbSlot k) (View.wordExact_bits rfl) ((View.wordExact_bits rfl).reshape _ _))
    (fun Kt => wpE_waitDma2_eq 𝒱₀ (c : Thread nD τ) none Set.univ Kt)
  have e : dmaPay m c (.w k) = iprop(has c (wbSlice k) (wv m c k) ∗ has c (wRow c k) (wblk m c k)) := by
    show iprop(has c (wbSlot k) (wblk m c k) ∗ has c (wRow c k) (wblk m c k)) = _
    unfold has
    rw [owns_squeeze (c : Thread nD τ) (wbSlice k)]
    rfl
  rw [e] at h
  exact h

/-- The block of the device `j + 1` places back has arrived in its slot. -/
theorem step_waitR (c : Dev nD) (j : Fin 7) {P : Body F} {Q : PUnit → sProp 𝕄} :
    iprop(book m K ∗ ow (F := F) c 0 ∗ cred (tallyAt (dmaCell c (recvS j)) () (amt (.recv j))) ∗ atPos ER (dmaCell c (recvS j)) 0 ∅ 0)
      ⊢ iprop(((ow (F := F) c 0 ∗ atPos ER (dmaCell c (recvS j)) 1 ∅ 0 ∗ has c (commSlice j) (rv m c j)) -∗ run c P Q)
          -∗ run c (waitR c j P) Q) := by
  have h := step_waitLast m K c (P := P) (Q := Q) (role_recv j)
    (w := .waitDma2 (recvS j) (sRow c j) (commSlot j)
      ((Memref.isWhole_whole _).wordExact_slice rfl _ (k0_off2_wordsbf16 c j))
      (((Memref.isWhole_whole _).wordExact_slice rfl _ (words_comm j)).reshape _ _))
    (fun Kt => wpE_waitDma2_eq 𝒱₀ (c : Thread nD τ) none Set.univ Kt)
  have e : dmaPay m c (.recv j) = has c (commSlice j) (rv m c j) := by
    show has c (commSlot j) (xblk m (dn c j) j) = _
    unfold has
    rw [owns_squeeze (c : Thread nD τ) (commSlice j)]
    rfl
  rw [e] at h
  exact h

/-- Transfer `j` has read its source. -/
theorem step_waitS (c : Dev nD) (j : Fin 7) {P : Body F} {Q : PUnit → sProp 𝕄} :
    iprop(book m K ∗ ow (F := F) c 0 ∗ cred (tallyAt (dmaCell c (sendS j)) () (amt (.send j))) ∗ atPos ER (dmaCell c (sendS j)) 0 ∅ 0)
      ⊢ iprop(((ow (F := F) c 0 ∗ atPos ER (dmaCell c (sendS j)) 1 ∅ 0 ∗ has c (sRow c j) (xblk m c j)) -∗ run c P Q)
          -∗ run c (waitS c j P) Q) :=
  step_waitLast m K c (P := P) (Q := Q) (role_send j)
    (w := .waitDma2 (sendS j) (commSlot j) (sRow c j)
      (((Memref.isWhole_whole _).wordExact_slice rfl _ (words_comm j)).reshape _ _)
      ((Memref.isWhole_whole _).wordExact_slice rfl _ (k0_off2_wordsbf16 c j)))
    (fun Kt => wpE_waitDma2_eq 𝒱₀ (c : Thread nD τ) none Set.univ Kt)

/-- The result has been written. -/
theorem step_waitO (c : Dev nD) {P : Body F} {Q : PUnit → sProp 𝕄} :
    iprop(book m K ∗ ow (F := F) c 0 ∗ cred (tallyAt (dmaCell c oS) () (amt .out)) ∗ atPos ER (dmaCell c oS) 0 ∅ 0)
      ⊢ iprop(((ow (F := F) c 0 ∗ atPos ER (dmaCell c oS) 1 ∅ 0 ∗ has c yM (res m c) ∗ has c ovM (res m c)) -∗ run c P Q)
          -∗ run c (waitO P) Q) :=
  step_waitLast m K c (P := P) (Q := Q) role_out
    (w := .waitDma2 oS ovM yM (Memref.isWhole_whole _).wordExact (Memref.isWhole_whole _).wordExact)
    (fun Kt => wpE_waitDma2_eq 𝒱₀ (c : Thread nD τ) none Set.univ Kt)

/-- Loading the device's own narrowed rows. -/
theorem step_loadOwn (c : Dev nD) (Z : S256x256.Idx → Elt F .bf16) {k : Vec F S256x256 .bf16 → Body F} {Q : PUnit → sProp 𝕄} :
    has c (ownRow c) Z ⊢ iprop((has c (ownRow c) Z -∗ run c (k Z) Q) -∗ run c (loadOwn c k) Q) :=
  step_load c (M := xbM) (r := ownRect c) (fun _ => rfl) Z
/-- Loading a slot of the weight buffer. -/
theorem step_loadW (c : Dev nD) (i : Fin 8) (Z : S1x256x2048.Idx → Elt F .f32) {k : Vec F S1x256x2048 .f32 → Body F} {Q : PUnit → sProp 𝕄} :
    has c (wbSlice i) Z ⊢ iprop((has c (wbSlice i) Z -∗ run c (k Z) Q) -∗ run c (loadW i k) Q) :=
  step_load c (M := wbM) (r := wbRect i) (fun _ => rfl) Z
/-- Loading a slot of the receive buffer. -/
theorem step_loadR (c : Dev nD) (j : Fin 7) (Z : S1x256x256.Idx → Elt F .bf16) {k : Vec F S1x256x256 .bf16 → Body F} {Q : PUnit → sProp 𝕄} :
    has c (commSlice j) Z ⊢ iprop((has c (commSlice j) Z -∗ run c (k Z) Q) -∗ run c (loadR j k) Q) :=
  step_load c (M := commM) (r := commRect j) (fun _ => rfl) Z

/-- The zero offset, as a function. -/
theorem zero2 : (![0, 0] : Fin 2 → Nat) = fun _ => 0 := funext fun a => by fin_cases a <;> rfl

/-- Reading a whole buffer gives its contents. -/
theorem step_loadX (c : Dev nD) (Z : S2048x256.Idx → Elt F .f32) {k : Vec F S2048x256 .f32 → Body F} {Q : PUnit → sProp 𝕄} :
    has c xvM Z ⊢ iprop((has c xvM Z -∗ run c (k Z) Q) -∗ run c (loadX k) Q) := by
  have e : (has c xvM Z : sProp 𝕄) = (((c : Thread nD τ).loc cc0_scratch0) ↦{fullShare} Z) := owns_whole (c : Thread nD τ) cc0_scratch0 fullShare Z
  have hv : xvM.view.readAt (Elt F) (Rect.unit (s := S2048x256) ![0, 0] S2048x256.size inb_S2048x256_S2048x256_0_0).toLoadRect Z = Z :=
    Memref.readAt_unit_zero (Elt F) cc0_scratch0 zero2 _ Z
  rw [e]
  iintro H Hk
  iapply (wp_load 𝒱₀ (c : Thread nD τ) none Set.univ (m := xvM) (Finset.subset_univ _)) $$ H
  rw [hv]
  iexact Hk

/-- The load that comes before storing the narrowed columns. -/
theorem step_loadB (c : Dev nD) {k : Vec F S2048x256 .bf16 → Body F} {Q : PUnit → sProp 𝕄} :
    free (F := F) c xbM ⊢ iprop((∀ v, free (F := F) c xbM -∗ run c (k v) Q) -∗ run c (loadB k) Q) := by
  iintro ⟨%Z, H⟩ Hk
  have e : (has c xbM Z : sProp 𝕄) = (((c : Thread nD τ).loc cc0_scratch1) ↦{fullShare} Z) := owns_whole (c : Thread nD τ) cc0_scratch1 fullShare Z
  ihave H := (Entails.of_eq e) $$ H
  iapply (wp_load 𝒱₀ (c : Thread nD τ) none Set.univ (m := xbM) (Finset.subset_univ _)) $$ H
  iintro H
  iapply Hk
  iexists Z
  iapply (Entails.of_eq e.symm); iexact H

/-- The load that comes before storing the result. -/
theorem step_loadO (c : Dev nD) {k : Vec F S256x2048 .f32 → Body F} {Q : PUnit → sProp 𝕄} :
    free (F := F) c ovM ⊢ iprop((∀ v, free (F := F) c ovM -∗ run c (k v) Q) -∗ run c (loadO k) Q) := by
  iintro ⟨%Z, H⟩ Hk
  have e : (has c ovM Z : sProp 𝕄) = (((c : Thread nD τ).loc cc0_scratch4) ↦{fullShare} Z) := owns_whole (c : Thread nD τ) cc0_scratch4 fullShare Z
  ihave H := (Entails.of_eq e) $$ H
  iapply (wp_load 𝒱₀ (c : Thread nD τ) none Set.univ (m := ovM) (Finset.subset_univ _)) $$ H
  iintro H
  iapply Hk
  iexists Z
  iapply (Entails.of_eq e.symm); iexact H

/-- Writing a whole buffer leaves it holding what was written. -/
theorem step_storeB (c : Dev nD) (v : S2048x256.Idx → Elt F .bf16) {P : Body F} {Q : PUnit → sProp 𝕄} :
    free (F := F) c xbM ⊢ iprop((has c xbM v -∗ run c P Q) -∗ run c (storeB v P) Q) := by
  iintro ⟨%Z, H⟩ Hk
  have e (Z) : (has c xbM Z : sProp 𝕄) = (((c : Thread nD τ).loc cc0_scratch1) ↦{fullShare} Z) := owns_whole (c : Thread nD τ) cc0_scratch1 fullShare Z
  have hv : (xbM.access (Rect.unit (s := S2048x256) ![0, 0] S2048x256.size inb_S2048x256_S2048x256_0_0) : View sig .tc _ _ _).write (Elt F) Z v Finset.univ = v :=
    Memref.write_access_unit_zero_univ (Elt F) cc0_scratch1 zero2 _ Z v
  ihave H := (Entails.of_eq (e Z)) $$ H
  iapply (wp_store 𝒱₀ (c : Thread nD τ) none Set.univ (m := xbM)
    (r := Rect.unit (s := S2048x256) ![0, 0] S2048x256.size inb_S2048x256_S2048x256_0_0) (Mk := Finset.univ) (Finset.subset_univ _)) $$ H
  rw [hv]
  iintro H
  iapply Hk
  iapply (Entails.of_eq (e v).symm); iexact H

/-- Storing the result. -/
theorem step_storeO (c : Dev nD) (v : S256x2048.Idx → Elt F .f32) {P : Body F} {Q : PUnit → sProp 𝕄} :
    free (F := F) c ovM ⊢ iprop((has c ovM v -∗ run c P Q) -∗ run c (storeO v P) Q) := by
  iintro ⟨%Z, H⟩ Hk
  have e (Z) : (has c ovM Z : sProp 𝕄) = (((c : Thread nD τ).loc cc0_scratch4) ↦{fullShare} Z) := owns_whole (c : Thread nD τ) cc0_scratch4 fullShare Z
  have hv : (ovM.access (Rect.unit (s := S256x2048) ![0, 0] S256x2048.size inb_S256x2048_S256x2048_0_0) : View sig .tc _ _ _).write (Elt F) Z v Finset.univ = v :=
    Memref.write_access_unit_zero_univ (Elt F) cc0_scratch4 zero2 _ Z v
  ihave H := (Entails.of_eq (e Z)) $$ H
  iapply (wp_store 𝒱₀ (c : Thread nD τ) none Set.univ (m := ovM)
    (r := Rect.unit (s := S256x2048) ![0, 0] S256x2048.size inb_S256x2048_S256x2048_0_0) (Mk := Finset.univ) (Finset.subset_univ _)) $$ H
  rw [hv]
  iintro H
  iapply Hk
  iapply (Entails.of_eq (e v).symm); iexact H

end Cert.MatGelu

end
-- ==== Proof.Split.lean ====
/-
# Taking buffers apart and putting them together

The weight matrix by the row blocks the copies read, the narrowed operand by the row blocks the
transfers read, the two slotted buffers by their slots; and back.
-/
module

public import proofs.«01_k».proof.Proof.Steps

@[expose] public section

noncomputable section

namespace Cert.MatGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Every element type has a value. -/
instance elt_nonempty (e : EltTy) : Nonempty (Elt F e) := ⟨default⟩

/-! ## Finite chains -/

/-- A collection of eight, written out. -/
theorem eight (Φ : Fin 8 → sProp 𝕄) : bigSep Finset.univ Φ
    = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl
/-- A collection of seven, written out. -/
theorem seven (Φ : Fin 7 → sProp 𝕄) : bigSep Finset.univ Φ
    = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl
/-- The first of eight, and the seven after it. -/
theorem one_seven (Φ : Fin 8 → sProp 𝕄) : bigSep Finset.univ Φ
    = iprop(Φ 0 ∗ bigSep Finset.univ fun j : Fin 7 => Φ j.succ) := by
  rw [eight, seven]; rfl

/-! ## Contents of a buffer given slot by slot -/

/-- Disjoint rectangles may be filled independently. -/
theorem glue {T : Type} {s : Shape} {e : EltTy} (r : T → Rect s) (hd : ∀ t t', t ≠ t' → Disjoint (r t).set (r t').set)
    (Y : ∀ t, (r t).shape.Idx → Elt F e) : ∃ Z : s.Idx → Elt F e, ∀ t, (fun j => Z ((r t).emb j)) = Y t := by
  have hinj : Function.Injective fun p : (t : T) × (r t).shape.Idx => (r p.1).emb p.2 := by
    rintro ⟨t, j⟩ ⟨t', j'⟩ h
    dsimp only at h
    by_cases ht : t = t'
    · subst ht; rw [(r t).emb.injective h]
    · refine absurd ?_ (Finset.disjoint_left.mp (hd t t' ht) (?_ : (r t).emb j ∈ (r t).set))
      · rw [h]; exact (r t').toLoadRect.idx_mem j'
      · exact (r t).toLoadRect.idx_mem j
  refine ⟨Function.extend (fun p : (t : T) × (r t).shape.Idx => (r p.1).emb p.2) (fun p => Y p.1 p.2) (fun _ => default), fun t => funext fun j => ?_⟩
  exact hinj.extend_apply (fun p : (t : T) × (r t).shape.Idx => Y p.1 p.2) (fun _ => default) ⟨t, j⟩

variable (c : Dev nD)

/-! ## The weight matrix -/

/-- The weight matrix is its eight row blocks, in the order of the steps. -/
theorem wM_split : has c wM (W m c) ⊢ bigSep Finset.univ fun k : Fin 8 => has c (wRow c k) (wblk m c k) :=
  owns_rects (c : Thread nD τ) wM fullShare (wRect c) (fun _ _ => rfl) (wRect_disj c) (wRect_cover c) (W m c)
/-- And back. -/
theorem wM_join : (bigSep Finset.univ fun k : Fin 8 => has c (wRow c k) (wblk m c k)) ⊢ has c wM (W m c) :=
  owns_of_rects (c : Thread nD τ) wM fullShare (wRect c) (fun _ _ => rfl) (wRect_disj c) (wRect_cover c) (W m c)

/-! ## The narrowed operand -/

/-- The row blocks are the device's own and the seven that it sends. -/
theorem xb_rows : (bigSep Finset.univ fun k : Fin 8 =>
      owns (c : Thread nD τ) (xbM.slice (rowRect c k) (rowRect_stride c k)) fullShare fun j => xb m c ((rowRect c k).emb j))
    = iprop(has c (ownRow c) (ownBlk m c) ∗ bigSep Finset.univ fun j : Fin 7 => has c (sRow c j) (xblk m c j)) := by
  rw [one_seven]; rfl
/-- The narrowed columns are the device's own rows and the seven blocks that it sends. -/
theorem xb_split : has c xbM (xb m c)
    ⊢ iprop(has c (ownRow c) (ownBlk m c) ∗ bigSep Finset.univ fun j : Fin 7 => has c (sRow c j) (xblk m c j)) :=
  (owns_rects (c : Thread nD τ) xbM fullShare (rowRect c) (rowRect_stride c) (rowRect_disj c) (rowRect_cover c) (xb m c)).trans
    (Entails.of_eq (xb_rows m c))
/-- And back. -/
theorem xb_join : iprop(has c (ownRow c) (ownBlk m c) ∗ bigSep Finset.univ fun j : Fin 7 => has c (sRow c j) (xblk m c j))
    ⊢ has c xbM (xb m c) :=
  (Entails.of_eq (xb_rows m c).symm).trans
    (owns_of_rects (c : Thread nD τ) xbM fullShare (rowRect c) (rowRect_stride c) (rowRect_disj c) (rowRect_cover c) (xb m c))

/-! ## The slots -/

/-- The weight buffer is its eight slots. -/
theorem wb_split : free (F := F) c wbM ⊢ bigSep Finset.univ fun k : Fin 8 => free (F := F) c (wbSlot k) := by
  iintro ⟨%Z, H⟩
  iapply ((owns_rects (c : Thread nD τ) wbM fullShare wbRect (fun _ _ => rfl) wbRect_disj wbRect_cover Z).trans
    (bigSep_mono fun k _ => show _ ⊢ free (F := F) c (wbSlot k) from by
      iintro H
      iexists fun i => Z ((wbRect k).emb (Shape.reshapeEquiv squeezes_S1x256x2048_S256x2048.numel_eq i))
      unfold has
      rw [owns_squeeze (c : Thread nD τ) (wbSlice k)]
      simp only [Equiv.apply_symm_apply]
      iexact H)) $$ H
/-- And back, whatever they hold. -/
theorem wb_join (Y : Fin 8 → S1x256x2048.Idx → Elt F .f32) :
    (bigSep Finset.univ fun k : Fin 8 => has c (wbSlice k) (Y k)) ⊢ free (F := F) c wbM := by
  obtain ⟨Z, hZ⟩ := glue (F := F) (e := .f32) wbRect wbRect_disj Y
  have h := owns_of_rects (Ix := Unit) (Name := ℕ) (U := UU) (Lvl := ℕ) (Val := Elt F) (c : Thread nD τ) wbM fullShare wbRect (fun _ _ => rfl) wbRect_disj wbRect_cover Z
  rw [bigSep_congr (fun k _ => by rw [hZ k])] at h
  refine h.trans ?_
  iintro H; iexists Z; iexact H
/-- The receive buffer is its seven slots. -/
theorem comm_split : free (F := F) c commM ⊢ bigSep Finset.univ fun j : Fin 7 => free (F := F) c (commSlot j) := by
  iintro ⟨%Z, H⟩
  iapply ((owns_rects (c : Thread nD τ) commM fullShare commRect (fun _ _ => rfl) commRect_disj commRect_cover Z).trans
    (bigSep_mono fun k _ => show _ ⊢ free (F := F) c (commSlot k) from by
      iintro H
      iexists fun i => Z ((commRect k).emb (Shape.reshapeEquiv squeezes_S1x256x256_S256x256.numel_eq i))
      unfold has
      rw [owns_squeeze (c : Thread nD τ) (commSlice k)]
      simp only [Equiv.apply_symm_apply]
      iexact H)) $$ H
/-- And back, whatever they hold. -/
theorem comm_join (Y : Fin 7 → S1x256x256.Idx → Elt F .bf16) :
    (bigSep Finset.univ fun j : Fin 7 => has c (commSlice j) (Y j)) ⊢ free (F := F) c commM := by
  obtain ⟨Z, hZ⟩ := glue (F := F) (e := .bf16) commRect commRect_disj Y
  have h := owns_of_rects (Ix := Unit) (Name := ℕ) (U := UU) (Lvl := ℕ) (Val := Elt F) (c : Thread nD τ) commM fullShare commRect (fun _ _ => rfl) commRect_disj commRect_cover Z
  rw [bigSep_congr (fun k _ => by rw [hZ k])] at h
  refine h.trans ?_
  iintro H; iexists Z; iexact H

end Cert.MatGelu

end
-- ==== Proof.Phases.lean ====
/-
# The body

Each phase of the body, then the whole of it: what a device starts with, and what it ends with.
-/
module

public import proofs.«01_k».proof.Proof.Split

@[expose] public section

noncomputable section

namespace Cert.MatGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × SemLoc sig → ℕ) (c : Dev nD)

/-! ## The phases -/

/-- All copies started: each destination has gone in, and its credit is out. -/
theorem phase_start {P : Body F} {Q : PUnit → sProp 𝕄} :
    iprop(book m K ∗ (has c xM (X m c) ∗ free (F := F) c xvM ∗ dutyTok ER (dmaCell c xS) 0 0)
        ∗ bigSep Finset.univ fun k : Fin 8 => iprop(has c (wRow c k) (wblk m c k) ∗ free (F := F) c (wbSlot k) ∗ dutyTok ER (dmaCell c (wS k)) 0 0))
      ⊢ iprop(((cred (tallyAt (dmaCell c xS) () (amt .x)) ∗ bigSep Finset.univ fun k : Fin 8 => cred (tallyAt (dmaCell c (wS k)) () (amt (.w k))))
          -∗ run c P Q) -∗ run c (startCopies c P) Q) := by
  rw [eight, eight]
  iintro ⟨#HB, HX, H0, H1, H2, H3, H4, H5, H6, H7⟩ Hk
  iapply (step_copyX m K c) $$ [HX]
  · isplitr; · iexact HB
    iexact HX
  iintro CX
  iapply (step_copyW m K c 0) $$ [H0]
  · isplitr; · iexact HB
    iexact H0
  iintro C0
  iapply (step_copyW m K c 1) $$ [H1]
  · isplitr; · iexact HB
    iexact H1
  iintro C1
  iapply (step_copyW m K c 2) $$ [H2]
  · isplitr; · iexact HB
    iexact H2
  iintro C2
  iapply (step_copyW m K c 3) $$ [H3]
  · isplitr; · iexact HB
    iexact H3
  iintro C3
  iapply (step_copyW m K c 4) $$ [H4]
  · isplitr; · iexact HB
    iexact H4
  iintro C4
  iapply (step_copyW m K c 5) $$ [H5]
  · isplitr; · iexact HB
    iexact H5
  iintro C5
  iapply (step_copyW m K c 6) $$ [H6]
  · isplitr; · iexact HB
    iexact H6
  iintro C6
  iapply (step_copyW m K c 7) $$ [H7]
  · isplitr; · iexact HB
    iexact H7
  iintro C7
  iapply Hk
  isplitl [CX]; · iexact CX
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

/-- All signals sent: each receive slot has gone to the device that will write it. -/
theorem phase_signals {P : Body F} {Q : PUnit → sProp 𝕄} :
    iprop(book m K ∗ ow (F := F) c (oB c 0)
        ∗ bigSep Finset.univ fun j : Fin 7 => iprop(dutyTok ER (barCell (up c j)) 0 j ∗ free (F := F) c (commSlot j.rev)))
      ⊢ iprop((ow (F := F) c (oB c 7) -∗ run c P Q) -∗ run c (signals c P) Q) := by
  rw [seven]
  iintro ⟨#HB, Ho, H0, H1, H2, H3, H4, H5, H6⟩ Hk
  iapply (step_signal m K c 0) $$ [Ho H0]
  · isplitr; · iexact HB
    isplitl [Ho]; · iexact Ho
    iexact H0
  iintro Ho
  iapply (step_signal m K c 1) $$ [Ho H1]
  · isplitr; · iexact HB
    isplitl [Ho]; · iexact Ho
    iexact H1
  iintro Ho
  iapply (step_signal m K c 2) $$ [Ho H2]
  · isplitr; · iexact HB
    isplitl [Ho]; · iexact Ho
    iexact H2
  iintro Ho
  iapply (step_signal m K c 3) $$ [Ho H3]
  · isplitr; · iexact HB
    isplitl [Ho]; · iexact Ho
    iexact H3
  iintro Ho
  iapply (step_signal m K c 4) $$ [Ho H4]
  · isplitr; · iexact HB
    isplitl [Ho]; · iexact Ho
    iexact H4
  iintro Ho
  iapply (step_signal m K c 5) $$ [Ho H5]
  · isplitr; · iexact HB
    isplitl [Ho]; · iexact Ho
    iexact H5
  iintro Ho
  iapply (step_signal m K c 6) $$ [Ho H6]
  · isplitr; · iexact HB
    isplitl [Ho]; · iexact Ho
    iexact H6
  iintro Ho
  iapply Hk; iexact Ho

/-- The slots that come with the barrier, by the transfer that will write each. -/
theorem bar_slots : (bigSep Finset.univ fun j => barPay (F := F) c j)
    = bigSep Finset.univ fun j : Fin 7 => free (F := F) (up c j) (commSlot j) := by
  rw [bigSep_univ_equiv (Fin.revPerm (n := 7))]
  refine bigSep_congr fun j _ => ?_
  show barPay (F := F) c j.rev = _
  unfold barPay
  rw [dn_rev, Fin.rev_rev]

/-- The narrowed operand. -/
theorem phase_narrow {P : Body F} {Q : PUnit → sProp 𝕄} :
    iprop(book m K ∗ levAts L lv ∗ ow (F := F) c (oR c 0) ∗ cred (tallyAt (dmaCell c xS) () (amt .x)) ∗ atPos ER (dmaCell c xS) 0 ∅ 0
        ∗ free (F := F) c xbM)
      ⊢ iprop(((ow (F := F) c (oR c 0) ∗ atPos ER (dmaCell c xS) 1 ∅ 0 ∗ has c xvM (X m c) ∗ has c xM (X m c) ∗ has c xbM (xb m c)) -∗ run c P Q)
          -∗ run c (narrow P) Q) := by
  iintro ⟨#HB, #Hl, Ho, Hc, Ha, Hf⟩ Hk
  iapply (step_waitX m K c) $$ [Ho Hc Ha]
  · isplitr; · iexact HB
    isplitr; · iexact Hl
    isplitl [Ho]; · iexact Ho
    isplitl [Hc] <;> iassumption
  iintro ⟨Ho, Ha, Hv, Hx⟩
  iapply (step_loadX c (X m c)) $$ Hv
  iintro Hv
  iapply (step_loadB c) $$ Hf
  iintro %v Hf
  iapply (step_storeB c (k0_pay1 (X m c))) $$ Hf
  iintro Hb
  iapply Hk
  isplitl [Ho]; · iexact Ho
  isplitl [Ha]; · iexact Ha
  isplitl [Hv]; · iexact Hv
  isplitl [Hx]; · iexact Hx
  iexact Hb

/-- All transfers started: source rows and destination slots have gone in. -/
theorem phase_sends {P : Body F} {Q : PUnit → sProp 𝕄} :
    iprop(book m K ∗ ow (F := F) c (oR c 0)
        ∗ bigSep Finset.univ fun j : Fin 7 => iprop(has c (sRow c j) (xblk m c j) ∗ free (F := F) (up c j) (commSlot j)
            ∗ dutyTok ER (dmaCell c (sendS j)) 0 0 ∗ dutyTok ER (dmaCell (up c j) (recvS j)) 0 0))
      ⊢ iprop(((ow (F := F) c 0 ∗ bigSep Finset.univ fun j : Fin 7 => cred (tallyAt (dmaCell c (sendS j)) () (amt (.send j)))) -∗ run c P Q)
          -∗ run c (sends c P) Q) := by
  rw [seven, seven]
  iintro ⟨#HB, Ho, ⟨S0, F0, T0, R0⟩, ⟨S1, F1, T1, R1⟩, ⟨S2, F2, T2, R2⟩, ⟨S3, F3, T3, R3⟩, ⟨S4, F4, T4, R4⟩, ⟨S5, F5, T5, R5⟩, ⟨S6, F6, T6, R6⟩⟩ Hk
  iapply (step_send m K c 0) $$ [Ho S0 F0 T0 R0]
  · isplitr; · iexact HB
    isplitl [S0]; · iexact S0
    isplitl [F0]; · iexact F0
    isplitl [Ho]; · iexact Ho
    isplitl [T0] <;> iassumption
  iintro ⟨Ho, C0⟩
  iapply (step_send m K c 1) $$ [Ho S1 F1 T1 R1]
  · isplitr; · iexact HB
    isplitl [S1]; · iexact S1
    isplitl [F1]; · iexact F1
    isplitl [Ho]; · iexact Ho
    isplitl [T1] <;> iassumption
  iintro ⟨Ho, C1⟩
  iapply (step_send m K c 2) $$ [Ho S2 F2 T2 R2]
  · isplitr; · iexact HB
    isplitl [S2]; · iexact S2
    isplitl [F2]; · iexact F2
    isplitl [Ho]; · iexact Ho
    isplitl [T2] <;> iassumption
  iintro ⟨Ho, C2⟩
  iapply (step_send m K c 3) $$ [Ho S3 F3 T3 R3]
  · isplitr; · iexact HB
    isplitl [S3]; · iexact S3
    isplitl [F3]; · iexact F3
    isplitl [Ho]; · iexact Ho
    isplitl [T3] <;> iassumption
  iintro ⟨Ho, C3⟩
  iapply (step_send m K c 4) $$ [Ho S4 F4 T4 R4]
  · isplitr; · iexact HB
    isplitl [S4]; · iexact S4
    isplitl [F4]; · iexact F4
    isplitl [Ho]; · iexact Ho
    isplitl [T4] <;> iassumption
  iintro ⟨Ho, C4⟩
  iapply (step_send m K c 5) $$ [Ho S5 F5 T5 R5]
  · isplitr; · iexact HB
    isplitl [S5]; · iexact S5
    isplitl [F5]; · iexact F5
    isplitl [Ho]; · iexact Ho
    isplitl [T5] <;> iassumption
  iintro ⟨Ho, C5⟩
  iapply (step_send m K c 6) $$ [Ho S6 F6 T6 R6]
  · isplitr; · iexact HB
    isplitl [S6]; · iexact S6
    isplitl [F6]; · iexact F6
    isplitl [Ho]; · iexact Ho
    isplitl [T6] <;> iassumption
  iintro ⟨Ho, C6⟩
  iapply Hk
  isplitl [Ho]
  · rw [← oR_end c]; iexact Ho
  isplitl [C0]; · iexact C0
  isplitl [C1]; · iexact C1
  isplitl [C2]; · iexact C2
  isplitl [C3]; · iexact C3
  isplitl [C4]; · iexact C4
  isplitl [C5]; · iexact C5
  iexact C6

/-- What device `c` holds of transfer `j` and weight block `j + 1` before step `j`. -/
def ready (j : Fin 7) : sProp 𝕄 :=
  iprop(cred (tallyAt (dmaCell c (recvS j)) () (amt (.recv j))) ∗ atPos ER (dmaCell c (recvS j)) 0 ∅ 0
    ∗ cred (tallyAt (dmaCell c (wS j.succ)) () (amt (.w j.succ))) ∗ atPos ER (dmaCell c (wS j.succ)) 0 ∅ 0)
/-- And after it. -/
def used (j : Fin 7) : sProp 𝕄 :=
  iprop(atPos ER (dmaCell c (recvS j)) 1 ∅ 0 ∗ has c (commSlice j) (rv m c j)
    ∗ atPos ER (dmaCell c (wS j.succ)) 1 ∅ 0 ∗ has c (wbSlice j.succ) (wv m c j.succ) ∗ has c (wRow c j.succ) (wblk m c j.succ))

/-- One step of the sum: it reads the block received and the weight block. -/
theorem phase_step (j : Fin 7) {P : Vec F S1x256x256 .bf16 → Vec F S1x256x2048 .f32 → Body F} {Q : PUnit → sProp 𝕄} :
    iprop(book m K ∗ ow (F := F) c 0 ∗ ready (F := F) c j)
      ⊢ iprop(((ow (F := F) c 0 ∗ used m c j) -∗ run c (P (rv m c j) (wv m c j.succ)) Q) -∗ run c (step c j P) Q) := by
  unfold ready used
  iintro ⟨#HB, Ho, Cr, Ar, Cw, Aw⟩ Hk
  iapply (step_waitR m K c j) $$ [Ho Cr Ar]
  · isplitr; · iexact HB
    isplitl [Ho]; · iexact Ho
    isplitl [Cr] <;> iassumption
  iintro ⟨Ho, Ar, Hr⟩
  iapply (step_loadR c j (rv m c j)) $$ Hr
  iintro Hr
  iapply (step_waitW m K c j.succ) $$ [Ho Cw Aw]
  · isplitr; · iexact HB
    isplitl [Ho]; · iexact Ho
    isplitl [Cw] <;> iassumption
  iintro ⟨Ho, Aw, Hw, Hrow⟩
  iapply (step_loadW c j.succ (wv m c j.succ)) $$ Hw
  iintro Hw
  iapply Hk
  isplitl [Ho]; · iexact Ho
  isplitl [Ar]; · iexact Ar
  isplitl [Hr]; · iexact Hr
  isplitl [Aw]; · iexact Aw
  isplitl [Hw] <;> iassumption

/-- All transfers have read their sources. -/
theorem phase_waitSends {P : Body F} {Q : PUnit → sProp 𝕄} :
    iprop(book m K ∗ ow (F := F) c 0
        ∗ bigSep Finset.univ fun j : Fin 7 => iprop(cred (tallyAt (dmaCell c (sendS j)) () (amt (.send j))) ∗ atPos ER (dmaCell c (sendS j)) 0 ∅ 0))
      ⊢ iprop(((ow (F := F) c 0 ∗ bigSep Finset.univ fun j : Fin 7 => iprop(atPos ER (dmaCell c (sendS j)) 1 ∅ 0 ∗ has c (sRow c j) (xblk m c j))) -∗ run c P Q)
          -∗ run c (waitSends c P) Q) := by
  rw [seven, seven]
  iintro ⟨#HB, Ho, H0, H1, H2, H3, H4, H5, H6⟩ Hk
  iapply (step_waitS m K c 0) $$ [Ho H0]
  · isplitr; · iexact HB
    isplitl [Ho]; · iexact Ho
    iexact H0
  iintro ⟨Ho, H0⟩
  iapply (step_waitS m K c 1) $$ [Ho H1]
  · isplitr; · iexact HB
    isplitl [Ho]; · iexact Ho
    iexact H1
  iintro ⟨Ho, H1⟩
  iapply (step_waitS m K c 2) $$ [Ho H2]
  · isplitr; · iexact HB
    isplitl [Ho]; · iexact Ho
    iexact H2
  iintro ⟨Ho, H2⟩
  iapply (step_waitS m K c 3) $$ [Ho H3]
  · isplitr; · iexact HB
    isplitl [Ho]; · iexact Ho
    iexact H3
  iintro ⟨Ho, H3⟩
  iapply (step_waitS m K c 4) $$ [Ho H4]
  · isplitr; · iexact HB
    isplitl [Ho]; · iexact Ho
    iexact H4
  iintro ⟨Ho, H4⟩
  iapply (step_waitS m K c 5) $$ [Ho H5]
  · isplitr; · iexact HB
    isplitl [Ho]; · iexact Ho
    iexact H5
  iintro ⟨Ho, H5⟩
  iapply (step_waitS m K c 6) $$ [Ho H6]
  · isplitr; · iexact HB
    isplitl [Ho]; · iexact Ho
    iexact H6
  iintro ⟨Ho, H6⟩
  iapply Hk
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The whole -/

/-- The positions of device `c`'s 25 cells, all at round `n`. -/
def ats (n : ℕ) : sProp 𝕄 :=
  iprop(atPos ER (barCell c) n ∅ 0 ∗ atPos ER (dmaCell c xS) n ∅ 0 ∗ atPos ER (dmaCell c oS) n ∅ 0
    ∗ (bigSep Finset.univ fun j : Fin 7 => atPos ER (dmaCell c (sendS j)) n ∅ 0)
    ∗ (bigSep Finset.univ fun j : Fin 7 => atPos ER (dmaCell c (recvS j)) n ∅ 0)
    ∗ bigSep Finset.univ fun k : Fin 8 => atPos ER (dmaCell c (wS k)) n ∅ 0)
/-- The tokens device `c` redeems: for its own copies, and for its signals and transfers to others. -/
def toks : sProp 𝕄 :=
  iprop(dutyTok ER (dmaCell c xS) 0 0 ∗ dutyTok ER (dmaCell c oS) 0 0
    ∗ (bigSep Finset.univ fun j : Fin 7 => dutyTok ER (dmaCell c (sendS j)) 0 0)
    ∗ (bigSep Finset.univ fun k : Fin 8 => dutyTok ER (dmaCell c (wS k)) 0 0)
    ∗ (bigSep Finset.univ fun j : Fin 7 => dutyTok ER (dmaCell (up c j) (recvS j)) 0 0)
    ∗ bigSep Finset.univ fun j : Fin 7 => dutyTok ER (barCell (up c j)) 0 j)
/-- What the others owe device `c`. -/
def creds : sProp 𝕄 :=
  iprop(cred (tallyAt (barCell c) () 7) ∗ bigSep Finset.univ fun j : Fin 7 => cred (tallyAt (dmaCell c (recvS j)) () (amt (.recv j))))
/-- The five buffers of vector memory. -/
def scratch : sProp 𝕄 :=
  iprop(free (F := F) c xvM ∗ free (F := F) c xbM ∗ free (F := F) c commM ∗ free (F := F) c wbM ∗ free (F := F) c ovM)

/-- What device `c` starts with. -/
def before : sProp 𝕄 :=
  iprop(ats (F := F) c 0 ∗ toks (F := F) c ∗ creds (F := F) c ∗ has c xM (X m c) ∗ has c wM (W m c) ∗ free (F := F) c yM ∗ scratch (F := F) c)
/-- What it ends with. -/
def after : sProp 𝕄 :=
  iprop(ats (F := F) c 1 ∗ has c xM (X m c) ∗ has c wM (W m c) ∗ has c yM (res m c) ∗ scratch (F := F) c)

/-- The families before the steps, step by step. -/
theorem ready_intro : iprop((bigSep Finset.univ fun j : Fin 7 => cred (tallyAt (dmaCell c (recvS j)) () (amt (.recv j))))
      ∗ (bigSep Finset.univ fun j : Fin 7 => atPos ER (dmaCell c (recvS j)) 0 ∅ 0)
      ∗ (bigSep Finset.univ fun j : Fin 7 => cred (tallyAt (dmaCell c (wS j.succ)) () (amt (.w j.succ))))
      ∗ (bigSep Finset.univ fun j : Fin 7 => atPos ER (dmaCell c (wS j.succ)) 0 ∅ 0))
    = bigSep Finset.univ fun j : Fin 7 => ready (F := F) c j := by
  unfold ready
  rw [← bigSep_sep', ← bigSep_sep', ← bigSep_sep']
/-- The families after the steps. -/
theorem used_elim : (bigSep Finset.univ fun j : Fin 7 => used m c j)
    = iprop((bigSep Finset.univ fun j : Fin 7 => atPos ER (dmaCell c (recvS j)) 1 ∅ 0)
      ∗ (bigSep Finset.univ fun j : Fin 7 => has c (commSlice j) (rv m c j))
      ∗ (bigSep Finset.univ fun j : Fin 7 => atPos ER (dmaCell c (wS j.succ)) 1 ∅ 0)
      ∗ (bigSep Finset.univ fun j : Fin 7 => has c (wbSlice j.succ) (wv m c j.succ))
      ∗ (bigSep Finset.univ fun j : Fin 7 => has c (wRow c j.succ) (wblk m c j.succ))) := by
  unfold used
  rw [bigSep_sep', bigSep_sep', bigSep_sep', bigSep_sep']

/-- From the start of the sum to the end of the body. -/
theorem phase_tail {Q : PUnit → sProp 𝕄} :
    iprop(book m K ∗ ow (F := F) c 0 ∗ has c (ownRow c) (ownBlk m c)
        ∗ (cred (tallyAt (dmaCell c (wS 0)) () (amt (.w 0))) ∗ atPos ER (dmaCell c (wS 0)) 0 ∅ 0)
        ∗ (bigSep Finset.univ fun j : Fin 7 => ready (F := F) c j)
        ∗ free (F := F) c ovM ∗ free (F := F) c yM ∗ dutyTok ER (dmaCell c oS) 0 0 ∗ atPos ER (dmaCell c oS) 0 ∅ 0
        ∗ bigSep Finset.univ fun j : Fin 7 => iprop(cred (tallyAt (dmaCell c (sendS j)) () (amt (.send j))) ∗ atPos ER (dmaCell c (sendS j)) 0 ∅ 0))
      ⊢ iprop((iprop(ow (F := F) c 0 ∗ has c (ownRow c) (ownBlk m c)
            ∗ (atPos ER (dmaCell c (wS 0)) 1 ∅ 0 ∗ has c (wbSlice 0) (wv m c 0) ∗ has c (wRow c 0) (wblk m c 0))
            ∗ (bigSep Finset.univ fun j : Fin 7 => used m c j)
            ∗ has c yM (res m c) ∗ free (F := F) c ovM ∗ atPos ER (dmaCell c oS) 1 ∅ 0
            ∗ bigSep Finset.univ fun j : Fin 7 => iprop(atPos ER (dmaCell c (sendS j)) 1 ∅ 0 ∗ has c (sRow c j) (xblk m c j))) -∗ Q ⟨⟩)
        -∗ run c (waitW c 0 <| loadOwn c fun a => loadW 0 fun w0 =>
          step c 0 fun x1 w1 => step c 1 fun x2 w2 => step c 2 fun x3 w3 => step c 3 fun x4 w4 =>
            step c 4 fun x5 w5 => step c 5 fun x6 w6 => step c 6 fun x7 w7 =>
              loadO fun _ => storeO (outOf a w0 x1 w1 x2 w2 x3 w3 x4 w4 x5 w5 x6 w6 x7 w7) <|
                copyO <| waitO <| waitSends c <| Prog.ret ⟨⟩)
          Q) := by
  rw [seven (fun j => ready (F := F) c j), seven (fun j => used m c j)]
  iintro ⟨#HB, Ho, Hown, H0, ⟨J0, J1, J2, J3, J4, J5, J6⟩, Hov, Hy, To, Ao, Hs⟩ Hk
  iapply (step_waitW m K c 0) $$ [Ho H0]
  · isplitr; · iexact HB
    isplitl [Ho]; · iexact Ho
    iexact H0
  iintro ⟨Ho, A0, Hw, Hrow⟩
  iapply (step_loadOwn c (ownBlk m c)) $$ Hown
  iintro Hown
  iapply (step_loadW c 0 (wv m c 0)) $$ Hw
  iintro Hw
  iapply (phase_step m K c 0) $$ [Ho J0]
  · isplitr; · iexact HB
    isplitl [Ho] <;> iassumption
  iintro ⟨Ho, J0⟩
  iapply (phase_step m K c 1) $$ [Ho J1]
  · isplitr; · iexact HB
    isplitl [Ho] <;> iassumption
  iintro ⟨Ho, J1⟩
  iapply (phase_step m K c 2) $$ [Ho J2]
  · isplitr; · iexact HB
    isplitl [Ho] <;> iassumption
  iintro ⟨Ho, J2⟩
  iapply (phase_step m K c 3) $$ [Ho J3]
  · isplitr; · iexact HB
    isplitl [Ho] <;> iassumption
  iintro ⟨Ho, J3⟩
  iapply (phase_step m K c 4) $$ [Ho J4]
  · isplitr; · iexact HB
    isplitl [Ho] <;> iassumption
  iintro ⟨Ho, J4⟩
  iapply (phase_step m K c 5) $$ [Ho J5]
  · isplitr; · iexact HB
    isplitl [Ho] <;> iassumption
  iintro ⟨Ho, J5⟩
  iapply (phase_step m K c 6) $$ [Ho J6]
  · isplitr; · iexact HB
    isplitl [Ho] <;> iassumption
  iintro ⟨Ho, J6⟩
  iapply (step_loadO c) $$ Hov
  iintro %v Hov
  iapply (step_storeO c (res m c)) $$ Hov
  iintro Hov
  iapply (step_copyO m K c) $$ [Hov Hy To]
  · isplitr; · iexact HB
    isplitl [Hov]; · iexact Hov
    isplitl [Hy] <;> iassumption
  iintro Co
  iapply (step_waitO m K c) $$ [Ho Co Ao]
  · isplitr; · iexact HB
    isplitl [Ho]; · iexact Ho
    isplitl [Co] <;> iassumption
  iintro ⟨Ho, Ao, Hy, Hov⟩
  iapply (phase_waitSends m K c) $$ [Ho Hs]
  · isplitr; · iexact HB
    isplitl [Ho] <;> iassumption
  iintro ⟨Ho, Hs⟩
  unfold run
  rw [wp_ret]
  iapply fupd_intro
  iapply Hk
  isplitl [Ho]; · iexact Ho
  isplitl [Hown]; · iexact Hown
  isplitl [A0 Hw Hrow]
  · isplitl [A0]; · iexact A0
    isplitl [Hw] <;> iassumption
  isplitl [J0 J1 J2 J3 J4 J5 J6]
  · isplitl [J0]; · iexact J0
    isplitl [J1]; · iexact J1
    isplitl [J2]; · iexact J2
    isplitl [J3]; · iexact J3
    isplitl [J4]; · iexact J4
    isplitl [J5] <;> iassumption
  isplitl [Hy]; · iexact Hy
  isplitl [Hov]; · iexists _; iexact Hov
  isplitl [Ao]; · iexact Ao
  iexact Hs

/-- The body of device `c` is the body at `c`. -/
theorem run_flat {Q : PUnit → sProp 𝕄} : run c (flat (F := F)) Q = run c (flatAt c) Q := by
  unfold run flat
  rw [wp_deviceId]

/-- The whole body. -/
theorem body_run : iprop(book m K ∗ levAts L lv ∗ ow (F := F) c (oB c 0) ∗ before m c)
    ⊢ run c (flat (F := F)) (fun _ => iprop(ow (F := F) c 0 ∗ after m c)) := by
  rw [run_flat]
  unfold before after ats toks creds scratch
  iintro ⟨#HB, #Hl, Ho, ⟨Ab, Ax, Ao, As, Ar, Aw⟩, ⟨Tx, To, Ts, Tw, Tr, Tb⟩, ⟨Cb, Cr⟩, Hx, Hw, Hy, Fxv, Fxb, Fc, Fw, Fo⟩
  ihave Hw := (wM_split m c) $$ Hw
  ihave Fw := (wb_split c) $$ Fw
  ihave Fc := ((comm_split c).trans (Entails.of_eq
    (bigSep_univ_equiv (Fin.revPerm (n := 7)) (fun j : Fin 7 => free (F := F) c (commSlot j))))) $$ Fc
  iapply (phase_start m K c) $$ [Hx Fxv Tx Hw Fw Tw]
  · isplitr; · iexact HB
    isplitl [Hx Fxv Tx]
    · isplitl [Hx]; · iexact Hx
      isplitl [Fxv] <;> iassumption
    rw [bigSep_sep', bigSep_sep']
    isplitl [Hw]; · iexact Hw
    isplitl [Fw] <;> iassumption
  iintro ⟨Cx, Cw⟩
  iapply (phase_signals m K c) $$ [Ho Tb Fc]
  · isplitr; · iexact HB
    isplitl [Ho]; · iexact Ho
    rw [bigSep_sep']
    isplitl [Tb]; · iexact Tb
    iexact Fc
  iintro Ho
  iapply (step_waitBar m K c) $$ [Ho Cb Ab]
  · isplitr; · iexact HB
    isplitr; · iexact Hl
    isplitl [Ho]; · iexact Ho
    isplitl [Cb] <;> iassumption
  iintro ⟨Ho, Ab, Hbar⟩
  ihave Hbar := (Entails.of_eq (bar_slots c)) $$ Hbar
  iapply (phase_narrow m K c) $$ [Ho Cx Ax Fxb]
  · isplitr; · iexact HB
    isplitr; · iexact Hl
    isplitl [Ho]; · iexact Ho
    isplitl [Cx]; · iexact Cx
    isplitl [Ax] <;> iassumption
  iintro ⟨Ho, Ax, Hxv, Hx, Hxb⟩
  ihave Hxb := (xb_split m c) $$ Hxb
  icases Hxb with ⟨Hown, Hrows⟩
  iapply (phase_sends m K c) $$ [Ho Hrows Hbar Ts Tr]
  · isplitr; · iexact HB
    isplitl [Ho]; · iexact Ho
    rw [bigSep_sep', bigSep_sep', bigSep_sep']
    isplitl [Hrows]; · iexact Hrows
    isplitl [Hbar]; · iexact Hbar
    isplitl [Ts] <;> iassumption
  iintro ⟨Ho, Cs⟩
  ihave Cw := (Entails.of_eq (one_seven fun k => cred (tallyAt (dmaCell c (wS k)) () (amt (.w k))))) $$ Cw
  ihave Aw := (Entails.of_eq (one_seven fun k => atPos ER (dmaCell c (wS k)) 0 ∅ 0)) $$ Aw
  icases Cw with ⟨Cw0, Cw⟩
  icases Aw with ⟨Aw0, Aw⟩
  iapply (phase_tail m K c) $$ [Ho Hown Cw0 Aw0 Cr Ar Cw Aw Fo Hy To Ao Cs As]
  · isplitr; · iexact HB
    isplitl [Ho]; · iexact Ho
    isplitl [Hown]; · iexact Hown
    isplitl [Cw0 Aw0]; · isplitl [Cw0] <;> iassumption
    isplitl [Cr Ar Cw Aw]
    · rw [← ready_intro]
      isplitl [Cr]; · iexact Cr
      isplitl [Ar]; · iexact Ar
      isplitl [Cw] <;> iassumption
    isplitl [Fo]; · iexact Fo
    isplitl [Hy]; · iexact Hy
    isplitl [To]; · iexact To
    isplitl [Ao]; · iexact Ao
    rw [bigSep_sep']
    isplitl [Cs] <;> iassumption
  rw [used_elim, bigSep_sep', one_seven (fun k => atPos ER (dmaCell c (wS k)) 1 ∅ 0)]
  iintro ⟨Ho, Hown, ⟨Aw0, Hb0, Hr0⟩, ⟨Ar, Hc, Aw, Hb, Hr⟩, Hy, Fo, Ao, As, Hrows⟩
  isplitl [Ho]; · iexact Ho
  isplitl [Ab Ax Ao As Ar Aw0 Aw]
  · isplitl [Ab]; · iexact Ab
    isplitl [Ax]; · iexact Ax
    isplitl [Ao]; · iexact Ao
    isplitl [As]; · iexact As
    isplitl [Ar]; · iexact Ar
    isplitl [Aw0] <;> iassumption
  isplitl [Hx]; · iexact Hx
  isplitl [Hr0 Hr]
  · iapply (wM_join m c)
    rw [one_seven]
    isplitl [Hr0] <;> iassumption
  isplitl [Hy]; · iexact Hy
  isplitl [Hxv]; · iexists _; iexact Hxv
  isplitl [Hown Hrows]
  · iexists _; iapply (xb_join m c)
    isplitl [Hown] <;> iassumption
  isplitl [Hc]; · iapply (comm_join c (rv m c)); iexact Hc
  isplitl [Hb0 Hb]
  · iapply (wb_join c (wv m c))
    rw [one_seven]
    isplitl [Hb0] <;> iassumption
  iexact Fo

end Cert.MatGelu

end
-- ==== Proof.Deal.lean ====
/-
# Dealing what the launch makes

The launch makes, of every device's 25 cells, their records, positions and tokens. Here the records
are put in the book all devices share, and each token goes to the device that redeems it.
-/
module

public import proofs.«01_k».proof.Proof.Phases

@[expose] public section

noncomputable section

namespace Cert.MatGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's semaphores, one by one -/

/-- Separating conjunction is associative. -/
theorem sep_nest (P Q R : sProp 𝕄) : iprop((P ∗ Q) ∗ R) = iprop(P ∗ Q ∗ R) := by
  exact BI.equiv_iff.mp ⟨BI.sep_assoc, BI.sep_assoc'⟩
/-- Over the transfer semaphores. -/
theorem dma_split (Φ : DmaSem sig → sProp 𝕄) : bigSep Finset.univ Φ
    = iprop(Φ xS ∗ Φ oS ∗ (bigSep Finset.univ fun j : Fin 7 => Φ (sendS j)) ∗ (bigSep Finset.univ fun j : Fin 7 => Φ (recvS j))
        ∗ bigSep Finset.univ fun k : Fin 8 => Φ (wS k)) := by
  rw [bigSep_univ_eq_bigSepL [xS, oS, sendS 0, sendS 1, sendS 2, sendS 3, sendS 4, sendS 5, sendS 6,
      recvS 0, recvS 1, recvS 2, recvS 3, recvS 4, recvS 5, recvS 6, wS 0, wS 1, wS 2, wS 3, wS 4, wS 5, wS 6, wS 7] (by decide) (by decide),
    seven, seven, eight]
  simp only [bigSepL_cons_cons, bigSepL_singleton, sep_nest]
  rfl
/-- Over all: the barrier, then the transfer semaphores. -/
theorem sems_split (Φ : SemLoc sig → sProp 𝕄) : bigSep Finset.univ Φ
    = iprop(Φ (.reg barS) ∗ bigSep Finset.univ fun s : DmaSem sig => Φ (.dma s)) := by
  rw [bigSep_univ_at Φ (.reg barS)]
  refine congrArg (fun P : sProp 𝕄 => iprop(Φ (.reg barS) ∗ P)) ?_
  rw [show (Finset.univ : Finset (SemLoc sig)).erase (.reg barS)
      = (Finset.univ : Finset (DmaSem sig)).map ⟨SemLoc.dma, fun _ _ h => SemLoc.dma.inj h⟩ from by decide, bigSep_map]
  rfl

/-! ## The launch's cells and tokens -/

/-- Different semaphores, or devices, are different cells. -/
theorem cell_injective : Function.Injective fun g : Dev nD × SemLoc sig => cell g.1 g.2 := by
  rintro ⟨c, s⟩ ⟨c', s'⟩ h
  have h1 : c = c' := congrArg (fun g : GSem nD τ sig => g.1.1) h
  have h2 : s = s' := congrArg Prod.snd h
  rw [h1, h2]
/-- Every cell of the mesh. -/
def allCells : Finset (GSem nD τ sig) := Finset.univ.map ⟨fun g : Dev nD × SemLoc sig => cell g.1 g.2, cell_injective⟩

/-- A cell's tokens: one for a transfer's, one per sender for the barrier's. -/
abbrev tokOf (x : Dev nD × (DmaSem sig ⊕ Fin 7)) : GSem nD τ sig × ℕ × Fin 7 :=
  match x.2 with
  | .inl s => (dmaCell x.1 s, 0, 0)
  | .inr j => (barCell x.1, 0, j)
/-- Different duties have different tokens. -/
theorem tokOf_injective : Function.Injective tokOf := by
  rintro ⟨c, a | a⟩ ⟨c', b | b⟩ h
  · have h1 : c = c' := congrArg (fun g : GSem nD τ sig × ℕ × Fin 7 => g.1.1.1) h
    have h2 : a = b := SemLoc.dma.inj (congrArg (fun g : GSem nD τ sig × ℕ × Fin 7 => g.1.2) h)
    rw [h1, h2]
  · exact absurd (congrArg (fun g : GSem nD τ sig × ℕ × Fin 7 => g.1.2) h) (fun h' => by cases h')
  · exact absurd (congrArg (fun g : GSem nD τ sig × ℕ × Fin 7 => g.1.2) h) (fun h' => by cases h')
  · have h1 : c = c' := congrArg (fun g : GSem nD τ sig × ℕ × Fin 7 => g.1.1.1) h
    have h2 : a = b := congrArg (fun g : GSem nD τ sig × ℕ × Fin 7 => g.2.2) h
    rw [h1, h2]
/-- The token of every duty of the mesh. -/
def allToks : Finset (GSem nD τ sig × ℕ × Fin 7) := Finset.univ.map ⟨tokOf, tokOf_injective⟩

/-- The tokens of device `c`'s own cells. -/
def minted (c : Dev nD) : sProp 𝕄 :=
  iprop((bigSep Finset.univ fun s : DmaSem sig => dutyTok ER (dmaCell c s) 0 0) ∗ bigSep Finset.univ fun j : Fin 7 => dutyTok ER (barCell c) 0 j)
/-- What the launch makes of device `c`'s cells. -/
def made (c : Dev nD) : sProp 𝕄 :=
  iprop((bigSep Finset.univ fun s : SemLoc sig => roundState ER (Rd m) (cell c s) 0)
    ∗ (bigSep Finset.univ fun s : SemLoc sig => iprop(atPos ER (cell c s) 0 ∅ 0 ∗ reached ER (cell c s) 0)) ∗ minted (F := F) c)
/-- What device `c` starts from: the book, its positions, the tokens it redeems. -/
def dealt (c : Dev nD) : sProp 𝕄 :=
  iprop(∃ K : Dev nD × SemLoc sig → ℕ, book m K ∗ ats (F := F) c 0 ∗ toks (F := F) c)

/-- The initial ghost state gives every device its share. -/
theorem fund_all : BI.own (ER (initOf allCells allToks)) ⊢ (|==> bigSep Finset.univ (made m) : sProp 𝕄) := by
  have hC (Φ : GSem nD τ sig → sProp 𝕄) : bigSep allCells Φ = bigSep Finset.univ fun c : Dev nD => bigSep Finset.univ fun s : SemLoc sig => Φ (cell c s) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks; rw [bigSep_map, bigSep_univ_prod]
    exact bigSep_congr fun c _ => by unfold minted; rw [bigSep_univ_sum]; rfl
  iintro HX
  imod (Rounds.fund ER (Rd m) allCells allToks) $$ HX with ⟨Hst, Hr, Hat, Htok⟩
  imodintro
  ihave Hst := (Entails.of_eq (hC fun g => roundState ER (Rd m) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold made
  simp only [bigSep_sep']
  isplitl [Hst]; · iexact Hst
  isplitl [Hat Hr]
  · isplitl [Hat] <;> iassumption
  iexact Htok

/-! ## The book -/

/-- The kernel's own semaphores: all the transfer ones. -/
abbrev osem : DmaSem sig → SemLoc sig := fun s => .dma s
/-- The transfer semaphores are those that the call owns. -/
theorem ownSemFacts : Pipeline.OwnSemFacts cfg0.spec osem := by decide

/-- The only other counter is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- A device's counters: the kernel's own, and the barrier. -/
theorem sems0_eq (c : Dev nD) : (bigSep Finset.univ fun s : SemLoc sig => semVal (cell c s) 0 : sProp 𝕄)
    = iprop(unscopedSems0 c ∗ Pipeline.ownSems0 (Ix := Unit) (Name := ℕ) (U := UU) (Lvl := ℕ) (Val := Elt F) (τ := τ) osem c) := by
  rw [sems_split, unscopedSems0_eq]; rfl

/-- A device's counters and share become its cells' invariants, positions and tokens. -/
theorem alloc_core (c : Dev nD) :
    iprop(Pipeline.ownSems0 (Ix := Unit) (Name := ℕ) (U := UU) (Lvl := ℕ) (Val := Elt F) (τ := τ) osem c ∗ unscopedSems0 c ∗ made m c)
      ⊢ |={Set.univ}=> iprop((bigSep Finset.univ fun s : SemLoc sig => iprop(∃ κ : ℕ, cellInv ER (Rd m) κ (cell c s)))
          ∗ (bigSep Finset.univ fun s : SemLoc sig => iprop(atPos ER (cell c s) 0 ∅ 0 ∗ reached ER (cell c s) 0)) ∗ minted (F := F) c) := by
  unfold made
  iintro ⟨Ho, Hu, Hst, Hat, Ht⟩
  ihave Hv := (Entails.of_eq (sems0_eq (F := F) c).symm) $$ [Ho Hu]
  · isplitl [Hu] <;> iassumption
  imod (show iprop((bigSep Finset.univ fun s : SemLoc sig => semVal (cell c s) 0) ∗ bigSep Finset.univ fun s : SemLoc sig => roundState ER (Rd m) (cell c s) 0)
      ⊢ (|={Set.univ}=> bigSep Finset.univ fun s : SemLoc sig => iprop(∃ κ : ℕ, cellInv ER (Rd m) κ (cell c s)) : sProp 𝕄) from by
        rw [← bigSep_sep']
        exact (bigSep_mono fun s _ => (Rounds.body_intro ER (Rd m) (cell c s)).trans inv_alloc).trans (bigSep_fupd _ _)) $$ [Hv Hst] with Hinv
  · isplitl [Hv] <;> iassumption
  imodintro
  isplitl [Hinv]; · iexact Hinv
  isplitl [Hat] <;> iassumption

/-! ## The deal -/

/-- Each device's family by number, against the family of the devices it sends to. -/
def partner : Dev nD × Fin 7 ≃ Dev nD × Fin 7 where
  toFun x := (up x.1 x.2, x.2)
  invFun x := (dn x.1 x.2, x.2)
  left_inv x := Prod.ext (dn_up x.1 x.2) rfl
  right_inv x := Prod.ext (up_dn x.1 x.2) rfl
/-- Dealing seven things per device to the peers they are for leaves the same collection. -/
theorem deal (Φ : Dev nD → Fin 7 → sProp 𝕄) : (bigSep Finset.univ fun c => bigSep Finset.univ fun j => Φ c j)
    = bigSep Finset.univ fun c => bigSep Finset.univ fun j => Φ (up c j) j := by
  have h (Ψ : Dev nD → Fin 7 → sProp 𝕄) : (bigSep Finset.univ fun c => bigSep Finset.univ fun j => Ψ c j)
      = bigSep Finset.univ fun x : Dev nD × Fin 7 => Ψ x.1 x.2 := (bigSep_univ_prod fun x : Dev nD × Fin 7 => Ψ x.1 x.2).symm
  rw [h, h, bigSep_univ_equiv partner]; rfl

/-- Each token goes to the device that will pay the duty. -/
theorem toks_dealt : (bigSep Finset.univ fun c : Dev nD => minted (F := F) c) ⊢ bigSep Finset.univ fun c : Dev nD => toks (F := F) c := by
  unfold minted toks
  rw [bigSep_congr (fun (c : Dev nD) _ => by rw [dma_split (F := F) (fun s => dutyTok ER (dmaCell c s) 0 0)])]
  simp only [bigSep_sep']
  rw [deal (F := F) (fun c j => dutyTok ER (dmaCell c (recvS j)) 0 0), deal (F := F) (fun c j => dutyTok ER (barCell c) 0 j)]
  iintro ⟨⟨Hx, Ho, Hs, Hr, Hw⟩, Hb⟩
  isplitl [Hx]; · iexact Hx
  isplitl [Ho]; · iexact Ho
  isplitl [Hs]; · iexact Hs
  isplitl [Hw]; · iexact Hw
  isplitl [Hr] <;> iassumption

/-- A device's positions, listed by the use of each semaphore. -/
theorem ats_eq (c : Dev nD) (n : ℕ) : (bigSep Finset.univ fun s : SemLoc sig => atPos ER (cell c s) n ∅ 0 : sProp 𝕄) = ats (F := F) c n := by
  rw [sems_split, dma_split]; rfl

/-- A persistent fact may be used at every member of a collection. -/
theorem all_persistent {I : Type} {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  classical
  exact (sep_mono_left (BI.bigSep_of_persistent S R)).trans (by rw [← bigSep_sep']; exact bigSep_mono h)

/-- The invariants of the whole mesh become one book that every device has. -/
theorem regroup :
    (bigSep Finset.univ fun c : Dev nD => iprop((bigSep Finset.univ fun s : SemLoc sig => iprop(∃ κ : ℕ, cellInv ER (Rd m) κ (cell c s)))
          ∗ (bigSep Finset.univ fun s : SemLoc sig => iprop(atPos ER (cell c s) 0 ∅ 0 ∗ reached ER (cell c s) 0)) ∗ minted (F := F) c) : sProp 𝕄)
      ⊢ bigSep Finset.univ (dealt m) := by
  rw [bigSep_sep', bigSep_sep', ← bigSep_univ_prod (fun g : Dev nD × SemLoc sig => iprop(∃ κ : ℕ, cellInv ER (Rd m) κ (cell g.1 g.2))),
    bigSep_congr (s := Finset.univ) (fun (c : Dev nD) _ => bigSep_sep' Finset.univ (fun s : SemLoc sig => (atPos ER (cell c s) 0 ∅ 0 : sProp 𝕄)) (fun s => reached ER (cell c s) 0)),
    bigSep_sep', ← bigSep_univ_prod (fun g : Dev nD × SemLoc sig => (reached ER (cell g.1 g.2) 0 : sProp 𝕄)),
    bigSep_congr (s := Finset.univ) (fun (c : Dev nD) _ => ats_eq (F := F) c 0)]
  iintro ⟨HI, ⟨Hat, Hr⟩, Ht⟩
  ihave HK := (BI.bigSep_exists_pi Finset.univ (fun (g : Dev nD × SemLoc sig) (κ : ℕ) => (cellInv ER (Rd m) κ (cell g.1 g.2) : sProp 𝕄))) $$ HI
  icases HK with ⟨%K, HI⟩
  ihave Ht := (toks_dealt (F := F)) $$ Ht
  iapply (all_persistent (R := book m K) (Φ := fun c => iprop(ats (F := F) c 0 ∗ toks (F := F) c)) fun c _ => by
    unfold dealt
    iintro H
    iexists K
    iexact H)
  isplitl [HI Hr]
  · unfold book
    rw [bigSep_sep']
    isplitl [HI] <;> iassumption
  rw [bigSep_sep']
  isplitl [Hat] <;> iassumption

/-- All devices' shares become what each starts from. -/
theorem glob : (bigSep Finset.univ fun c => iprop(Pipeline.ownSems0 (Ix := Unit) (Name := ℕ) (U := UU) (Lvl := ℕ) (Val := Elt F) (τ := τ) osem c ∗ unscopedSems0 c ∗ made m c) : sProp 𝕄)
    ⊢ |={Set.univ}=> bigSep Finset.univ (dealt m) :=
  ((bigSep_mono fun c _ => alloc_core m c).trans (bigSep_fupd _ _)).trans (BI.fupd_mono (regroup m))

/-! ## What the others owe a device -/

/-- Every number is at least zero. -/
theorem filter_all : (Finset.univ : Finset (Fin 7)).filter (fun i => 0 ≤ i.val) = Finset.univ := by decide

/-- Going forward to `c` from `d` is going back from `c` to `d`. -/
theorem eq_up_iff (d c : Dev nD) (j : Fin 7) : Iff (c = up d j) (d = dn c j) :=
  ⟨fun h => by rw [h, dn_up], fun h => by rw [h, up_dn]⟩

/-- The receive semaphores are distinct. -/
theorem recvS_inj {i j : Fin 7} (h : recvS i = recvS j) : i = j := by
  have := (role_recv i).symm.trans ((congrArg role h).trans (role_recv j))
  injection this

/-- What device `d` owes of receive credit to one cell. -/
theorem oR_at (d : Dev nD) (g : GSem nD τ sig) : oR d 0 g () = ∑ i : Fin 7, if g = dmaCell (up d i) (recvS i) then amt (.recv i) else 0 := by
  unfold oR
  rw [filter_all, Finset.sum_apply, Finsupp.finset_sum_apply]
  refine Finset.sum_congr rfl fun i _ => ?_
  rw [tallyAt_apply]
  simp only [and_true]
/-- All that device `d` owes to one cell. -/
theorem oB_at (d : Dev nD) (g : GSem nD τ sig) : oB d 0 g () = oR d 0 g () + ∑ i : Fin 7, if g = barCell (up d i) then 1 else 0 := by
  unfold oB
  rw [filter_all, Pi.add_apply, Finsupp.add_apply, Finset.sum_apply, Finsupp.finset_sum_apply]
  refine congrArg _ (Finset.sum_congr rfl fun i _ => ?_)
  rw [tallyAt_apply]
  simp only [and_true]

/-- What device `d` owes to device `c`'s barrier: one unit from each peer. -/
theorem owed_bar (d c : Dev nD) : oB d 0 (barCell c) () = ∑ i : Fin 7, if d = dn c i then 1 else 0 := by
  rw [oB_at, oR_at, Finset.sum_eq_zero, Nat.zero_add]
  · refine Finset.sum_congr rfl fun i _ => if_congr ?_ rfl rfl
    rw [← eq_up_iff]
    exact ⟨fun h => congrArg (fun g : GSem nD τ sig => g.1.1) h, fun h => congrArg barCell h⟩
  · intro i _
    exact if_neg fun h => by cases congrArg Prod.snd h
/-- What device `d` owes to a receive cell of `c`: one transfer, from the one device that fills it. -/
theorem owed_recv (d c : Dev nD) (j : Fin 7) : oB d 0 (dmaCell c (recvS j)) () = if d = dn c j then amt (.recv j) else 0 := by
  rw [oB_at, oR_at, Finset.sum_eq_single_of_mem j (Finset.mem_univ _)]
  · rw [Finset.sum_eq_zero, Nat.add_zero]
    · refine if_congr ?_ rfl rfl
      rw [← eq_up_iff]
      exact ⟨fun h => congrArg (fun g : GSem nD τ sig => g.1.1) h, fun h => congrArg (fun c => dmaCell c (recvS j)) h⟩
    · intro i _
      exact if_neg fun h => by cases congrArg Prod.snd h
  · intro i _ hi
    exact if_neg fun h => hi (recvS_inj (SemLoc.dma.inj (congrArg Prod.snd h)).symm)

/-- Each barrier is credited with seven units in all. -/
theorem launch_bar (c : Dev nD) :
    tallyOn (barCell c) (launchCredit (Pipeline.owing fun d => oB d 0) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => Finset.sum_ite_eq' Finset.univ (dn c i) fun _ => 1]
  simp
/-- Each receive cell is credited with one transfer in all. -/
theorem launch_recv (c : Dev nD) (j : Fin 7) :
    tallyOn (dmaCell c (recvS j)) (launchCredit (Pipeline.owing fun d => oB d 0) 0 (dmaCell c (recvS j)))
      = (tallyAt (dmaCell c (recvS j)) () (amt (.recv j)) : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (dn c j) fun _ => amt (.recv j), if_pos (Finset.mem_univ _)]

/-- The credits of the launch are those that the body uses. -/
theorem creds_intro (c : Dev nD) : (Pipeline.launchCred (fun d => oB d 0) c : sProp 𝕄) ⊢ creds (F := F) c := by
  unfold Pipeline.launchCred creds
  rw [sems_split, dma_split, launch_bar]
  have h : (bigSep Finset.univ fun j : Fin 7 => cred (tallyOn (dmaCell c (recvS j)) (launchCredit (Pipeline.owing fun d => oB d 0) 0 (dmaCell c (recvS j)))) : sProp 𝕄)
      = bigSep Finset.univ fun j : Fin 7 => cred (tallyAt (dmaCell c (recvS j)) () (amt (.recv j))) :=
    bigSep_congr fun j _ => congrArg cred (launch_recv c j)
  rw [← h]
  iintro ⟨Hb, -, -, -, Hr, -⟩
  isplitl [Hb] <;> iassumption

end Cert.MatGelu

end
-- ==== Proof.Launch.lean ====
/-
# The run

The program launched on the whole mesh: it ends, its result is `res`, its arguments are unchanged and
every semaphore is back at zero.
-/
module

public import proofs.«01_k».proof.Proof.Deal
public import proofs.«01_k».proof.Proof.Gen.KernelIdeal.Launch
public import Idealize.ShloMosaic.Lib.Rounds.Family
public import Idealize.ShloMosaic.Lib.Pipeline.CollectiveSegs

@[expose] public section

noncomputable section

namespace Cert.MatGelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The state the program starts in. -/
def s₀ : MemSt nD τ sig (Elt F) := ⟨m, fun _ => 0, ρ⟩

/-! ## What a device holds before and after the body -/

/-- What is routed into the launch. -/
def start (c : Dev nD) : sProp 𝕄 :=
  iprop(dealt m c ∗ levAts L lv ∗ creds (F := F) c ∗ has c xM (X m c) ∗ has c wM (W m c) ∗ free (F := F) c yM)
/-- What the launch returns. -/
def finish (c : Dev nD) : sProp 𝕄 :=
  iprop(unscopedSems0 c ∗ has c xM (X m c) ∗ has c wM (W m c) ∗ has c yM (res m c))
/-- What the body has at its start. -/
def Φ₀ (c : Dev nD) : sProp 𝕄 := iprop(start m c ∗ scratch (F := F) c)
/-- What the body has at its end. -/
def Φ₁ (c : Dev nD) : sProp 𝕄 :=
  iprop((bigSep Finset.univ fun s : SemLoc sig => semVal (cell c s) 0)
    ∗ has c xM (X m c) ∗ has c wM (W m c) ∗ has c yM (res m c) ∗ scratch (F := F) c)

/-- The launch has no windows; the body moves from `Φ₀` to `Φ₁`. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => oB c 0
    | ⟨_ + 1, _⟩ => 0

/-- The closing of a device's cells: every counter is zero. -/
theorem close_all (K : Dev nD × SemLoc sig → ℕ) (c : Dev nD) :
    iprop(book m K ∗ ats (F := F) c 1) ⊢ |={Set.univ}=> (bigSep Finset.univ fun s : SemLoc sig => semVal (cell c s) 0 : sProp 𝕄) := by
  refine .trans ?_ (Rounds.cells_close ER (Rd (F := F) m) Finset.univ (fun s : SemLoc sig => cell c s) (fun s => K (c, s))
    (fun _ _ => Set.mem_univ _) (fun _ _ h => h) (fun _ => 1) (fun s _ => duties_later m (cell c s)))
  rw [← ats_eq]
  exact all_persistent (F := F) fun s _ => by
    iintro ⟨#HB, Ha⟩
    isplitr
    · iapply (book_inv m K c s); iexact HB
    iexact Ha

/-- The body, its cells closed after it. -/
theorem body_closed (K : Dev nD × SemLoc sig → ℕ) (c : Dev nD) :
    iprop(book m K ∗ levAts L lv ∗ ow (F := F) c (oB c 0) ∗ before m c)
      ⊢ run c (flat (F := F)) (fun _ => iprop(Φ₁ m c ∗ ow (F := F) c 0)) := by
  have h : iprop(book m K ∗ levAts L lv ∗ ow (F := F) c (oB c 0) ∗ before m c)
      ⊢ iprop(book m K ∗ run c (flat (F := F)) (fun _ => iprop(ow (F := F) c 0 ∗ after m c))) := by
    iintro ⟨#HB, H⟩
    isplitr; · iexact HB
    iapply (body_run m K c)
    isplitr; · iexact HB
    iexact H
  refine h.trans ((wp_frame_l frame _ Set.univ).trans ((wp_mono frame _ Set.univ fun _ => ?_).trans (wp_fupd frame _ Set.univ _ _)))
  unfold after Φ₁
  iintro ⟨#HB, Ho, Ha, Hx, Hw, Hy, Hs⟩
  imod (close_all m K c) $$ [Ha] with Hz
  · isplitr; · iexact HB
    iexact Ha
  imodintro
  isplitr [Ho]
  · isplitl [Hz]; · iexact Hz
    isplitl [Hx]; · iexact Hx
    isplitl [Hw]; · iexact Hw
    isplitl [Hy] <;> iassumption
  iexact Ho

/-- The body from `Φ₀` to `Φ₁`. -/
theorem body_from (c : Dev nD) :
    iprop(Φ₀ m c ∗ ow (F := F) c (oB c 0)) ⊢ run c (flat (F := F)) (fun _ => iprop(Φ₁ m c ∗ ow (F := F) c 0)) := by
  unfold Φ₀ start dealt
  iintro ⟨⟨⟨⟨%K, #HB, Ha, Ht⟩, #Hl, Hc, Hx, Hw, Hy⟩, Hs⟩, Ho⟩
  iapply (body_closed m K c)
  isplitr; · iexact HB
  isplitr; · iexact Hl
  isplitl [Ho]; · iexact Ho
  unfold before
  isplitl [Ha]; · iexact Ha
  isplitl [Ht]; · iexact Ht
  isplitl [Hc]; · iexact Hc
  isplitl [Hx]; · iexact Hx
  isplitl [Hw]; · iexact Hw
  isplitl [Hy] <;> iassumption

/-- The call has no windows. -/
theorem no_windows (Φ : Fin cfg0.W → sProp 𝕄) : bigSep Finset.univ Φ = iprop(emp) := rfl

/-- The launch's one point runs the body. -/
theorem body_obligation (c : Dev nD) : BodyObligation (dats m 0 c) (defs₀ (F := F)) 𝒱₀ () Set.univ := fun t => by
  rw [fin_N0 t, no_windows, no_windows]
  have hb : (defs₀ (F := F)) .tc cfg0.body (cfg0.bodyArgs t0_0 (cfg0.slots t0_0)) = flat (F := F) := body_eq_flat
  rw [hb]
  show iprop(Φ₀ m c ∗ (dats m 0 c).owesAt () (Fin.castSucc t0_0) ∗ emp)
    ⊢ run c (flat (F := F)) (fun _ => iprop(Φ₁ m c ∗ (dats m 0 c).owesAt () (Fin.succ t0_0) ∗ emp))
  refine .trans ?_ ((body_from m c).trans (wp_mono frame _ Set.univ fun _ => ?_))
  · unfold Dat.owesAt Pipeline.owesWithin ow
    iintro ⟨HΦ, ⟨%Wt, %hW, Ho⟩, -⟩
    isplitl [HΦ]; · iexact HΦ
    iexists Wt; iexact Ho
  · unfold Dat.owesAt Pipeline.owesWithin ow
    iintro ⟨HΦ, ⟨%Wt, Ho⟩⟩
    isplitl [HΦ]; · iexact HΦ
    isplitl [Ho]
    · iexists Wt
      isplitr
      · ipureintro; exact fun _ _ => Or.inl trivial
      iexact Ho
    iempintro

/-! ## The side conditions -/

/-- So nothing is shared with a window. -/
theorem share_eq (c : Dev nD) (w : Fin cfg0.W) : (dats m 0 c).share w = fullShare := w.elim0

/-- The initial ghost state: the launch's own and the cells'. -/
def u₀ : UU := (initOf (Pipeline.cells cfgs cellOf_inj) (Pipeline.launchToks cfgs cellOf_inj), initOf allCells allToks)

/-- Owning a whole buffer is holding its memory. -/
theorem has_whole (c : Dev nD) (b : Ref sig .tc) (f : b.ty.Contents (Elt F)) :
    (owns (c : Thread nD τ) (Memref.whole b) fullShare f : sProp 𝕄) = (((c : Thread nD τ).loc b) ↦{fullShare} f) :=
  owns_whole (c : Thread nD τ) b fullShare f

/-- The same, whatever the buffer holds. -/
theorem free_whole (c : Dev nD) (b : Ref sig .tc) :
    iprop(∃ f : b.ty.Contents (Elt F), owns (c : Thread nD τ) (Memref.whole b) fullShare f)
      = (iprop(∃ f : Buf (Elt F) ((c : Thread nD τ).loc b), ((c : Thread nD τ).loc b) ↦{fullShare} f) : sProp 𝕄) := by
  simp only [has_whole]

/-- The call's scratch buffers are the five of the body. -/
theorem scratch_eq (c : Dev nD) : (Pipeline.scopedRest (Ix := Unit) (Name := ℕ) (U := UU) (Lvl := ℕ) (Val := Elt F) cfg0.spec c : sProp 𝕄) = scratch (F := F) c := by
  rw [scopedRest0_eq]
  unfold scratch free has
  rw [← free_whole, ← free_whole, ← free_whole, ← free_whole, ← free_whole]
  rfl

/-- What a device has at launch is what it starts from. -/
theorem start_intro (c : Dev nD) :
    iprop(Pipeline.unscopedRestP Pipeline.Prefetch.none cfg0.spec c (fun b => m ((c : Thread nD τ).loc b)) ∗ levAts L lv
        ∗ Pipeline.launchCred (fun d => oB d 0) c ∗ prngReg c (ρ c) ∗ dealt m c)
      ⊢ |={Set.univ}=> iprop(start m c ∗ emp) := by
  rw [Pipeline.unscopedRestP_none, unscopedRest0_eq]
  iintro ⟨⟨Hx, Hw, Hy⟩, Hl, Hc, -, Hd⟩
  ihave Hc := (creds_intro (F := F) c) $$ Hc
  imodintro
  unfold start
  isplitl
  · isplitl [Hd]; · iexact Hd
    isplitl [Hl]; · iexact Hl
    isplitl [Hc]; · iexact Hc
    isplitl [Hx]; · iapply (Entails.of_eq (has_whole c main_arg0 (X m c)).symm); iexact Hx
    isplitl [Hw]; · iapply (Entails.of_eq (has_whole c main_arg1 (W m c)).symm); iexact Hw
    iexists _; iapply (Entails.of_eq (has_whole c main_v1 _).symm); iexact Hy
  · iempintro

/-- That and the scratch buffers enter the body. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

/-- What the body ends with gives back the counters and the scratch buffers. -/
theorem leave (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scratch_eq]
  unfold Φ₁ finish
  rw [sems0_eq]
  iintro ⟨⟨Hu, Ho⟩, Hx, Hw, Hy, Hs⟩
  isplitl [Hu Hx Hw Hy]
  · isplitl [Hu]; · iexact Hu
    isplitl [Hx]; · iexact Hx
    isplitl [Hw] <;> iassumption
  isplitl [Ho] <;> iassumption

/-- No window waits. -/
theorem waits (c : Dev nD) : (levAts L lv : sProp 𝕄) ⊢ Pipeline.cellsWaits cfgs (dats m) () 0 c :=
  Pipeline.cellsWaits_intro cfgs (dats m) () 0 c fun w s t => w.elim0

/-- What is read of device `c` at the end. -/
def Reads (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = res m c

/-- A buffer that is held has its contents in the final memory. -/
theorem read_buf (c : Dev nD) (b : Ref sig .tc) (f : b.ty.Contents (Elt F)) (s' : Phys nD τ sig (Elt F)) :
    iprop(SI s' ∗ owns (c : Thread nD τ) (Memref.whole b) fullShare f) ⊢ (⌜s'.mem.mem ((c : Thread nD τ).loc b) = f⌝ : sProp 𝕄) := by
  rw [has_whole]
  refine SI_pointsTo_agree.trans (BI.pure_mono fun h => funext fun i => h i (Finset.mem_univ i))

/-- At the end the counters, the arguments and the result are read off. -/
theorem read_all (c : Dev nD) (s' : Phys nD τ sig (Elt F)) :
    iprop(finish m c ∗ emp ∗ SI s') ⊢ |={Set.univ}=> iprop(⌜Reads m c s'.mem⌝ ∗ SI s') := by
  unfold finish
  iintro ⟨⟨Hu, Hx, Hw, Hy⟩, -, HSI⟩
  ihave %hx := (read_buf (F := F) c main_arg0 (X m c) s') $$ [HSI Hx]
  · isplitl [HSI] <;> iassumption
  ihave %hw := (read_buf (F := F) c main_arg1 (W m c) s') $$ [HSI Hw]
  · isplitl [HSI] <;> iassumption
  ihave %hy := (read_buf (F := F) c main_v1 (res m c) s') $$ [HSI Hy]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro; exact ⟨hu, hx, hw, hy⟩
  iexact HSI

/-! ## The run -/

set_option maxRecDepth 8000 in
/-- From any memory, with all counters zero: every run on the mesh ends, with each device's result at
    `res`, its arguments unchanged, and every counter zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = res m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := fun d => oB d 0) (howed₀ := fun _ => rfl) (howedN := fun _ => rfl)
    (L := L) (lv := lv) (hL := L_of_ne) (hwaits := waits m)
    (G := made m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := enter m) (hout := leave m)
    (QY := Reads m) (hY := read_all m)
    (hQ := fun _ h hs => ⟨fun c => (h c).2.2.2, sem_eq_zero hs fun c => (h c).2.2.1⟩)

end Cert.MatGelu

end
-- ==== Proof.Sums.lean ====
/-
# A sum over the contracted coordinate, block by block

The kernel adds the eight products of 256 terms in the order in which the blocks reach it. Addition of
extended reals is commutative and associative, so that is the whole sum.
-/
module

public import Idealize.ShloMosaic.PureOps.Ideal
public import Mathlib.Logic.Equiv.Fin.Basic
public import Mathlib.Algebra.BigOperators.Fin

@[expose] public section

noncomputable section

namespace Cert.MatGelu

open scoped BigOperators

/-- Element `q` of block `b`, of eight blocks of 256. -/
def at_ (b : Fin 8) (q : Fin 256) : Fin 2048 := ⟨256 * b.val + q.val, by have := b.isLt; have := q.isLt; omega⟩

/-- A sum over 2048 elements is the sum over the blocks of the sums over a block. -/
theorem sum_by_blocks {M : Type} [AddCommMonoid M] (f : Fin 2048 → M) :
    ∑ i, f i = ∑ b : Fin 8, ∑ q : Fin 256, f (at_ b q) := by
  rw [← Fintype.sum_prod_type' (f := fun (b : Fin 8) (q : Fin 256) => f (at_ b q))]
  refine (Fintype.sum_equiv (finProdFinEquiv (m := 8) (n := 256)) _ _ fun p => ?_).symm
  refine congrArg f (Fin.ext ?_)
  show 256 * p.1.val + p.2.val = p.2.val + 256 * p.1.val
  omega

/-- The blocks may be taken from block `c` backwards, round the eight. -/
theorem sum_from (g : Fin 8 → EReal) (c : Fin 8) :
    ∑ b, g b = g (c - 0) + g (c - 1) + g (c - 2) + g (c - 3) + g (c - 4) + g (c - 5) + g (c - 6) + g (c - 7) := by
  rw [← Equiv.sum_comp (Equiv.subLeft c) g, Fin.sum_univ_eight]
  rfl

end Cert.MatGelu

end
-- ==== Proof.Value.lean ====
/-
# What the kernel computes

Over the extended reals, device `c`'s result is row block `c` of `gelu (x @ w)`: the blocks it receives
are its rows of the first operand, in column blocks, and the weight rows of each step are the matching
row block of the second operand.
-/
module

public import proofs.«01_k».proof.Proof.Cells
public import proofs.«01_k».proof.Proof.Sums
public import Idealize.ShloMosaic.Lib.ValueIdx
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.MatGelu

open Cert.KernelIdeal Cert.KernelIdeal.Gen
open Idealize.ShloMosaic Idealize.ShloMosaic.TcCoe Idealize.ShloMosaic.ValueIdx
open scoped BigOperators

/-- A matrix over the extended reals of the whole operands' shape. -/
abbrev Mat : Type := S2048x2048.Idx → EReal

/-- The first operand is eight column blocks. -/
theorem tiles_columns : Layout.Tiles S2048x256 S2048x2048 1 8 := by decide
/-- The result is eight row blocks. -/
theorem tiles_rows : Layout.Tiles S256x2048 S2048x2048 0 8 := by decide

/-! ## The specification -/

/-- Element `(i, l)` of the product. -/
def prodAt (A B : Mat) (i l : Fin 2048) : EReal := ∑ k : Fin 2048, A (ix2 i k) * B (ix2 k l)

/-- The activation of one number, with the three constants that the programs hold. -/
def gelu (y : EReal) : EReal :=
  Ideal.ofBits .f32 0x3F000000#32 * y *
    (Ideal.ofBits .f32 0x3F800000#32 + Ideal.tanh (Ideal.ofBits .f32 0x3F4C422A#32 *
      (y + Ideal.ofBits .f32 0x3D372713#32 * (y * y * y))))

/-- The whole result. -/
def spec (A B : Mat) : Mat := fun i => gelu (prodAt A B (i 0) (i 1))

/-! ## One block product -/

/-- The product of one pair of blocks, into zero. -/
abbrev part (a : FVec Ideal S256x256 .bf16) (b : FVec Ideal S256x2048 .f32) : FVec Ideal S256x2048 .f32 :=
  matmul dot_S256x256_S256x2048_S256x2048_1_0_0_1_n_n none a (truncf .bf16 b bitsLt_bf16_f32) (constant S256x2048 .f32 0x00000000#32)

/-- A block product at an element is the sum of 256 products. -/
theorem part_apply (a : FVec Ideal S256x256 .bf16) (b : FVec Ideal S256x2048 .f32) (r : Fin 256) (l : Fin 2048) :
    part a b (ix2 r l) = ∑ q : Fin 256, a (ix2 r q) * b (ix2 q l) := by
  refine (Ideal.matmul_plain_apply none a (truncf .bf16 b bitsLt_bf16_f32) (constant S256x2048 .f32 0x00000000#32) r l).trans ?_
  rw [constant_apply, Ideal.ofBits_zero_f32, zero_add]
  rfl

/-! ## The kernel's value -/

variable (m : (ℓ : Loc nD τ sig) → Buf (Elt Ideal) ℓ)

/-- The accumulated product of device `c`. -/
def acc (c : Dev nD) : FVec Ideal S256x2048 .f32 :=
  addf (addf (addf (addf (addf (addf (addf (part (ownBlk m c) (wblk m c 0)) (part (xblk m (dn c 0) 0) (wblk m c 1)))
    (part (xblk m (dn c 1) 1) (wblk m c 2))) (part (xblk m (dn c 2) 2) (wblk m c 3))) (part (xblk m (dn c 3) 3) (wblk m c 4)))
    (part (xblk m (dn c 4) 4) (wblk m c 5))) (part (xblk m (dn c 5) 5) (wblk m c 6))) (part (xblk m (dn c 6) 6) (wblk m c 7))

/-- A slot of the weight buffer, its unit axis dropped, is the weight block. -/
theorem cast_w (c : Dev nD) (k : Fin 8) (h : S1x256x2048.ShapeCasts S256x2048) : shapeCast S256x2048 (wv m c k) h = wblk m c k :=
  funext fun i => congrArg (wblk m c k) (Equiv.symm_apply_apply (Shape.reshapeEquiv squeezes_S1x256x2048_S256x2048.numel_eq) i)

/-- A slot of the receive buffer, its unit axis dropped, is the block received. -/
theorem cast_x (c : Dev nD) (j : Fin 7) (h : S1x256x256.ShapeCasts S256x256) : shapeCast S256x256 (rv m c j) h = xblk m (dn c j) j :=
  funext fun i => congrArg (xblk m (dn c j) j) (Equiv.symm_apply_apply (Shape.reshapeEquiv squeezes_S1x256x256_S256x256.numel_eq) i)

/-- What is accumulated of the blocks as they are read. -/
theorem first_two (a : Vec Ideal S256x256 .bf16) (w0 : Vec Ideal S1x256x2048 .f32) (x1 : Vec Ideal S1x256x256 .bf16) (w1 : Vec Ideal S1x256x2048 .f32) :
    k0_pay2 a w0 x1 w1 = addf (part a (shapeCast S256x2048 w0 shapeCasts_S1x256x2048_S256x2048))
      (part (shapeCast S256x256 x1 shapeCasts_S1x256x256_S256x256) (shapeCast S256x2048 w1 shapeCasts_S1x256x2048_S256x2048)) := rfl
/-- One more product is added. -/
theorem one_more (v : FVec Ideal S256x2048 .f32) (x : Vec Ideal S1x256x256 .bf16) (w : Vec Ideal S1x256x2048 .f32) :
    k0_pay3 v x w = addf v (part (shapeCast S256x256 x shapeCasts_S1x256x256_S256x256) (shapeCast S256x2048 w shapeCasts_S1x256x2048_S256x2048)) := rfl
/-- One more product is added. -/
theorem one_more' (v : FVec Ideal S256x2048 .f32) (x : Vec Ideal S1x256x256 .bf16) (w : Vec Ideal S1x256x2048 .f32) :
    k0_pay6 v x w = addf v (part (shapeCast S256x256 x shapeCasts_S1x256x256_S256x256) (shapeCast S256x2048 w shapeCasts_S1x256x2048_S256x2048)) := rfl
/-- Two more products are added. -/
theorem two_more (v : FVec Ideal S256x2048 .f32) (x : Vec Ideal S1x256x256 .bf16) (w : Vec Ideal S1x256x2048 .f32)
    (x' : Vec Ideal S1x256x256 .bf16) (w' : Vec Ideal S1x256x2048 .f32) :
    k0_pay5 v (k0_pay4 x) w x' w' = addf (addf v (part (shapeCast S256x256 x shapeCasts_S1x256x256_S256x256) (shapeCast S256x2048 w shapeCasts_S1x256x2048_S256x2048)))
      (part (shapeCast S256x256 x' shapeCasts_S1x256x256_S256x256) (shapeCast S256x2048 w' shapeCasts_S1x256x2048_S256x2048)) := rfl
/-- Two more products are added. -/
theorem two_more' (v : FVec Ideal S256x2048 .f32) (x : Vec Ideal S1x256x256 .bf16) (w : Vec Ideal S1x256x2048 .f32)
    (x' : Vec Ideal S1x256x256 .bf16) (w' : Vec Ideal S1x256x2048 .f32) :
    k0_pay8 v (k0_pay7 x) w x' w' = addf (addf v (part (shapeCast S256x256 x shapeCasts_S1x256x256_S256x256) (shapeCast S256x2048 w shapeCasts_S1x256x2048_S256x2048)))
      (part (shapeCast S256x256 x' shapeCasts_S1x256x256_S256x256) (shapeCast S256x2048 w' shapeCasts_S1x256x2048_S256x2048)) := rfl
/-- Half of the accumulated product. -/
theorem half_of (v : FVec Ideal S256x2048 .f32) (x : FVec Ideal S256x256 .bf16) (w : Vec Ideal S1x256x2048 .f32)
    (x' : Vec Ideal S1x256x256 .bf16) (w' : Vec Ideal S1x256x2048 .f32) :
    k0_pay9 v x w x' w' = mulf (broadcast S256x2048 (Scalar.ofBits (F := Ideal) .f32 0x3F000000#32)) (k0_pay8 v x w x' w') := rfl

/-- The activation as the kernel writes it, at an element. -/
theorem gelu_apply (y : FVec Ideal S256x2048 .f32) (i : S256x2048.Idx) :
    k0_pay11 y (mulf (broadcast S256x2048 (Scalar.ofBits (F := Ideal) .f32 0x3F000000#32)) y) (k0_pay10 (F := Ideal)) i = gelu (y i) := by
  unfold k0_pay11 k0_pay10
  simp only [shapeCast_self]
  show Ideal.ofBits .f32 0x3F000000#32 * y i *
    (Ideal.ofBits .f32 0x3F800000#32 + Ideal.tanh (Ideal.ofBits .f32 0x3F4C422A#32 *
      (y i + Ideal.ofBits .f32 0x3D372713#32 * y i * y i * y i))) = _
  unfold gelu
  rw [mul_assoc (Ideal.ofBits .f32 0x3D372713#32), mul_assoc (Ideal.ofBits .f32 0x3D372713#32)]

/-- The product of what is read in a step is the product of the blocks. -/
theorem cast_part (c : Dev nD) (j : Fin 7) :
    part (shapeCast S256x256 (rv m c j) shapeCasts_S1x256x256_S256x256) (shapeCast S256x2048 (wv m c j.succ) shapeCasts_S1x256x2048_S256x2048)
      = part (xblk m (dn c j) j) (wblk m c j.succ) :=
  congrArg₂ part (cast_x m c j _) (cast_w m c j.succ _)

/-- The result is the activation of the accumulated product. -/
theorem res_apply (c : Dev nD) (i : S256x2048.Idx) : res m c i = gelu (acc m c i) := by
  unfold res outOf
  rw [half_of, two_more', one_more', two_more, one_more, first_two, gelu_apply]
  exact congrArg gelu (congrFun (congrArg₂ addf (congrArg₂ addf (congrArg₂ addf (congrArg₂ addf (congrArg₂ addf (congrArg₂ addf
    (congrArg₂ addf (congrArg (part (ownBlk m c)) (cast_w m c 0 _)) (cast_part m c 0)) (cast_part m c 1)) (cast_part m c 2))
    (cast_part m c 3)) (cast_part m c 4)) (cast_part m c 5)) (cast_part m c 6)) i)

/-! ## The blocks, as parts of the whole operands -/

section Blocks

variable (A B : Mat)
  (hX : ∀ c : Dev nD, X m c = Layout.block S2048x256 S2048x2048 1 8 c A tiles_columns)
  (hW : ∀ c : Dev nD, W m c = B)
include hX

/-- The narrowed columns of device `c` are column block `c` of the first operand. -/
theorem xb_apply (c : Dev nD) (i : Fin 2048) (q : Fin 256) : xb m c (ix2 i q) = A (ix2 i (at_ c q)) := by
  have h : xb m c = X m c := by
    unfold xb k0_pay1
    exact shapeCast_self _ _
  rw [h, hX, Layout.block_apply]
  refine congrArg A (funext fun a => Fin.ext ?_)
  match a with
  | ⟨0, _⟩ => rfl
  | ⟨1, _⟩ => show c.val * 256 + q.val = 256 * c.val + q.val; omega

/-- The device's own rows are block `(c, c)` of the first operand. -/
theorem ownBlk_apply (c : Dev nD) (r q : Fin 256) : ownBlk m c (ix2 r q) = A (ix2 (at_ c r) (at_ c q)) := by
  have h : (ownRect c).emb (ix2 r q) = ix2 (at_ c r) q := by
    refine funext fun a => Fin.ext ?_
    rw [Rect.emb_apply]
    show k0_off3 c a + 1 * _ = _
    rw [off3_eq]
    match a with
    | ⟨0, _⟩ => show 256 * c.val + 1 * r.val = 256 * c.val + r.val; omega
    | ⟨1, _⟩ => show 0 + 1 * q.val = q.val; omega
  unfold ownBlk
  rw [h, xb_apply m A hX]

/-- The block received in slot `j` is block `(c, c - (j + 1))` of the first operand. -/
theorem xblk_apply (c : Dev nD) (j : Fin 7) (r q : Fin 256) :
    xblk m (dn c j) j (ix2 r q) = A (ix2 (at_ c r) (at_ (dn c j) q)) := by
  have h : (sRect (dn c j) j).emb (ix2 r q) = ix2 (at_ c r) q := by
    refine funext fun a => Fin.ext ?_
    rw [Rect.emb_apply]
    show k0_off2 (dn c j) (BitVec.ofNat 32 (1 + j.val)) a + 1 * _ = _
    rw [off2_eq, up_dn]
    match a with
    | ⟨0, _⟩ => show 256 * c.val + 1 * r.val = 256 * c.val + r.val; omega
    | ⟨1, _⟩ => show 0 + 1 * q.val = q.val; omega
  unfold xblk
  rw [h, xb_apply m A hX]

omit hX in
include hW in
/-- The weight block of step `k` is row block `c - k` of the second operand. -/
theorem wblk_apply (c : Dev nD) (k : Fin 8) (q : Fin 256) (l : Fin 2048) :
    wblk m c k (ix2 q l) = B (ix2 (at_ (c - k : Fin 8) q) l) := by
  have h : (wRect c k).emb (ix2 q l) = ix2 (at_ (c - k : Fin 8) q) l := by
    refine funext fun a => Fin.ext ?_
    rw [Rect.emb_apply]
    show k0_off1 c (BitVec.ofNat 32 k.val) a + 1 * _ = _
    rw [off1_eq]
    match a with
    | ⟨0, _⟩ => show 256 * (c - k : Fin 8).val + 1 * q.val = 256 * (c - k : Fin 8).val + q.val; omega
    | ⟨1, _⟩ => show 0 + 1 * l.val = l.val; omega
  unfold wblk
  rw [h, hW]

/-- The part of the product that column block `b` of the first operand contributes. -/
def term (A B : Mat) (i l : Fin 2048) (b : Fin 8) : EReal := ∑ q : Fin 256, A (ix2 i (at_ b q)) * B (ix2 (at_ b q) l)

include hW

/-- The first product is column block `c`'s part. -/
theorem own_part (c : Dev nD) (r : Fin 256) (l : Fin 2048) :
    part (ownBlk m c) (wblk m c 0) (ix2 r l) = term A B (at_ c r) l (c - 0 : Fin 8) := by
  rw [part_apply]
  refine Finset.sum_congr rfl fun q _ => ?_
  rw [ownBlk_apply m A hX, wblk_apply m B hW, show (c - 0 : Fin 8) = c from sub_zero c]

/-- The product with the block of slot `j` is that column block's part. -/
theorem recv_part (c : Dev nD) (j : Fin 7) (r : Fin 256) (l : Fin 2048) :
    part (xblk m (dn c j) j) (wblk m c j.succ) (ix2 r l) = term A B (at_ c r) l (c - j.succ : Fin 8) := by
  rw [part_apply]
  refine Finset.sum_congr rfl fun q _ => ?_
  rw [xblk_apply m A hX, wblk_apply m B hW]

/-- The accumulated product is the whole product. -/
theorem acc_apply (c : Dev nD) (r : Fin 256) (l : Fin 2048) : acc m c (ix2 r l) = prodAt A B (at_ c r) l := by
  unfold acc prodAt
  simp only [addf_apply]
  rw [sum_by_blocks, show (∑ b : Fin 8, ∑ q : Fin 256, A (ix2 (at_ c r) (at_ b q)) * B (ix2 (at_ b q) l))
    = ∑ b : Fin 8, term A B (at_ c r) l b from rfl, sum_from _ c]
  exact congrArg₂ _ (congrArg₂ _ (congrArg₂ _ (congrArg₂ _ (congrArg₂ _ (congrArg₂ _ (congrArg₂ _
    (own_part m A B hX hW c r l) (recv_part m A B hX hW c 0 r l)) (recv_part m A B hX hW c 1 r l)) (recv_part m A B hX hW c 2 r l))
    (recv_part m A B hX hW c 3 r l)) (recv_part m A B hX hW c 4 r l)) (recv_part m A B hX hW c 5 r l)) (recv_part m A B hX hW c 6 r l)

/-- Device `c`'s result is row block `c` of the specification. -/
theorem res_eq_block (c : Dev nD) : res m c = Layout.block S256x2048 S2048x2048 0 8 c (spec A B) tiles_rows := by
  funext i
  rw [Layout.block_apply, res_apply]
  refine congrArg gelu ?_
  obtain ⟨r, l, rfl⟩ : ∃ (r : Fin 256) (l : Fin 2048), i = ix2 r l := ⟨i 0, i 1, eq_ix2 i⟩
  rw [acc_apply m A B hX hW]
  refine congrArg₂ _ (Fin.ext ?_) (Fin.ext rfl)
  show 256 * c.val + r.val = c.val * 256 + r.val
  omega

end Blocks

end Cert.MatGelu

end
-- ==== Proof.Reference.lean ====
/-
# What the reference computes

Its result is the specification of its two arguments, and it has no semaphore.
-/
module

public import proofs.«01_k».proof.Proof.Value
public import proofs.«01_k».proof.Proof.Gen.ReferenceIdeal.Run

@[expose] public section

noncomputable section

namespace Cert.MatGelu.Ref

open Cert.ReferenceIdeal Cert.ReferenceIdeal.Gen
open Idealize.ShloMosaic Idealize.ShloMosaic.TcCoe Idealize.ShloMosaic.ValueIdx Idealize.SL.Sem
open scoped BigOperators

/-- The reference's product at an element. -/
theorem dot_apply (A B : Cert.MatGelu.Mat) (i : S2048x2048.Idx) :
    Host.dotGeneral (F := Ideal) (φ₁ := .f32) (φ₂ := .f32) dot_S2048x2048_S2048x2048_S2048x2048_1_0_0_1_n_n none A B i = Cert.MatGelu.prodAt A B (i 0) (i 1) := by
  obtain ⟨r, l, rfl⟩ : ∃ (r l : Fin 2048), i = ix2 r l := ⟨i 0, i 1, eq_ix2 i⟩
  exact StackMember.dotGeneral_plain_apply none A B r l

/-- Every run of the reference ends with the specification in its result and its arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Cert.MatGelu.spec (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run (defs (F := Ideal)) _ _).mono (fun r h c => ⟨(h c).1.trans (funext fun i => ?_), (h c).2⟩) (Value.run (F := Ideal) m ρ)
  have hd := dot_apply (m ((c.tc : Thread nD τ).loc main_arg0)) (m ((c.tc : Thread nD τ).loc main_arg1)) i
  unfold Cert.MatGelu.spec Cert.MatGelu.gelu
  rw [← hd]
  rfl

/-- The reference's counters are all zero: it has none. -/
theorem no_sems (s : MemSt nD τ sig (Elt Ideal)) : s.sem = fun _ => 0 := sem_eq_zero_of_no_sems (by decide) s

end Cert.MatGelu.Ref

end
-- ==== Proof.lean ====
/-
# The claims

Each claim, from the run of the mesh program, the run of the reference, and the equality of what they compute.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

/-- The kernel, at the machine's values: every run ends without fault, with its arguments unchanged and every
    semaphore counter zero. -/
theorem frame_kernel : Cert.quiescent_Kernel := fun m ρ _ =>
  (θ_run (Cert.KernelIdeal.defs (F := Bits)) _ _).mono (fun _ h => ⟨fun c => ⟨(h.1 c).1, (h.1 c).2.1⟩, h.2⟩)
    (Cert.MatGelu.run_main (F := Bits) m ρ)

/-- The same of the kernel over the extended reals. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩)
    (Cert.MatGelu.run_main (F := Ideal) m ρ)

/-- The same of the reference. -/
theorem frame_reference : Cert.quiescent_ReferenceIdeal := fun m ρ _ =>
  (θ_run (Cert.ReferenceIdeal.defs (F := Ideal)) _ _).mono (fun r h => ⟨fun c => (h c).2, Cert.MatGelu.Ref.no_sems r.2⟩)
    (Cert.MatGelu.Ref.run_spec m ρ)

/-- Over the extended reals each device's result is its row block of the reference's result. -/
theorem same_function : Cert.algebraic_KernelIdeal_ReferenceIdeal := fun m ρ m' ρ' _ hm =>
  ⟨_, (θ_run (Cert.KernelIdeal.defs (F := Ideal)) _ _).mono
      (fun _ h c => ⟨(h.1 c).2.2.trans (Cert.MatGelu.res_eq_block m _ _ (fun c => (hm c).1) (fun c => (hm c).2) c), (h.1 c).1, (h.1 c).2.1⟩)
      (Cert.MatGelu.run_main (F := Ideal) m ρ),
    (θ_run (Cert.ReferenceIdeal.defs (F := Ideal)) _ _).mono (fun _ h => h 0) (Cert.MatGelu.Ref.run_spec m' ρ')⟩

/-- Everything claimed. -/
theorem claim : Cert.Claim := ⟨Cert.Kernel.Gen.facts, Cert.KernelIdeal.Gen.facts, Cert.ReferenceIdeal.Gen.facts,
  frame_kernel, frame_ideal, frame_reference, trivial, same_function⟩

end Cert.Proof

end
